-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encodes_code [hPre_encodes_code : Cert.Pre_encodes_code.Facts] (m : (ℓ : Loc Cert.KernelIdeal.nD Cert.KernelIdeal.τ Cert.KernelIdeal.sig) → Buf (Elt Ideal) ℓ) : Prop :=
  ∀ c : Dev Cert.KernelIdeal.nD,
    (Cert.Pre_encodes_code.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encodes_code [hPre_encodes_code : Cert.Pre_encodes_code.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encodes_code.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_encodes_code [hKernelIdeal : Cert.KernelIdeal.Facts] [hPre_encodes_code : Cert.Pre_encodes_code.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encodes_code m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_encodes_code [hReferenceIdeal : Cert.ReferenceIdeal.Facts] [hPre_encodes_code : Cert.Pre_encodes_code.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encodes_code m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_encodes_code [hKernelIdeal : Cert.KernelIdeal.Facts] [hReferenceIdeal : Cert.ReferenceIdeal.Facts] [hPre_encodes_code : Cert.Pre_encodes_code.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encodes_code m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_encodes_code : Cert.Pre_encodes_code.Facts),
    quiescent_Kernel (hKernel := hKernel)
    ∧ quiescent_KernelIdeal (hKernelIdeal := hKernelIdeal)
    ∧ quiescent_KernelIdeal_pre_encodes_code (hKernelIdeal := hKernelIdeal) (hPre_encodes_code := hPre_encodes_code)
    ∧ quiescent_ReferenceIdeal (hReferenceIdeal := hReferenceIdeal)
    ∧ quiescent_ReferenceIdeal_pre_encodes_code (hReferenceIdeal := hReferenceIdeal) (hPre_encodes_code := hPre_encodes_code)
    ∧ preserves_Kernel_KernelIdeal
    ∧ algebraic_KernelIdeal_ReferenceIdeal_pre_encodes_code (hKernelIdeal := hKernelIdeal) (hReferenceIdeal := hReferenceIdeal) (hPre_encodes_code := hPre_encodes_code)
-- ==== Pre_encodes_code.lean ====
abbrev S262144x32 : Shape := ⟨2, ![262144, 32]⟩
abbrev S16x8 : Shape := ⟨2, ![16, 8]⟩
abbrev S16x8x32 : Shape := ⟨3, ![16, 8, 32]⟩
abbrev S16x8x1 : Shape := ⟨3, ![16, 8, 1]⟩
abbrev S_ : Shape := ⟨0, ![]⟩
abbrev S16x32 : Shape := ⟨2, ![16, 32]⟩

class Facts : Prop where
  bcast_S16x8_S16x8x1_0_1 : S16x8.BroadcastsInDim S16x8x1 (![0, 1] : Fin 2 → Fin S16x8x1.rank)
  bcast_S16x8x1_S16x8x32_0_1_2 : S16x8x1.BroadcastsInDim S16x8x32 (![0, 1, 2] : Fin 3 → Fin S16x8x32.rank)
  bcast_S_S16x8x32 : S_.BroadcastsInDim S16x8x32 (![] : Fin 0 → Fin S16x8x32.rank)
  reducesTo_S16x8x32_S16x32_d1 : S16x8x32.ReducesTo [1] S16x32
  h_S_ : 0 < S_.numel
  bcast_S_S16x32 : S_.BroadcastsInDim S16x32 (![] : Fin 0 → Fin S16x32.rank)
  reducesTo_S16x32_S_d0_1 : S16x32.ReducesTo [0, 1] S_
  bcast_S_S16x8 : S_.BroadcastsInDim S16x8 (![] : Fin 0 → Fin S16x8.rank)
  reducesTo_S16x8_S_d0_1 : S16x8.ReducesTo [0, 1] S_

variable [Facts]

def fn_where {F : FTy → Type} [FloatOps F] (arg0 : IVec S16x8x32 1) (arg1 : IVec S16x8x1 32) (arg2 : IVec S_ 32) : IVec S16x8x32 32 :=
  let v0 : IVec S_ 32 := id arg2
  let v1 : IVec S16x8x32 32 := broadcastInDim S16x8x32 ![0, 1, 2] bcast_S16x8x1_S16x8x32_0_1_2 arg1
  let v2 : IVec S16x8x32 32 := broadcastInDim S16x8x32 ![] bcast_S_S16x8x32 v0
  let v3 : IVec S16x8x32 32 := select arg0 v1 v2
  v3

def fn_where_0 {F : FTy → Type} [FloatOps F] (arg0 : IVec S16x32 1) (arg1 : IVec S_ 32) (arg2 : IVec S_ 32) : IVec S16x32 32 :=
  let v0 : IVec S16x32 32 := broadcastInDim S16x32 ![] bcast_S_S16x32 arg1
  let v1 : IVec S16x32 32 := broadcastInDim S16x32 ![] bcast_S_S16x32 arg2
  let v2 : IVec S16x32 32 := select arg0 v0 v1
  v2

def fn_part1 {F : FTy → Type} [FloatOps F] (main_arg1 : IVec S16x8 32) (main_v14 : IVec S16x32 32) (main_v16 : IVec S16x32 32) : IVec S_ 1 :=
  let main_v17 : IVec S16x32 32 := id main_v14
  let main_v18 : IVec S16x32 1 := cmpi .eq main_v16 main_v17
  let main_c_6 : IVec S_ 1 := constantI S_ 1 1#1
  let main_v19 : IVec S_ 1 := (fun x v => Host.reduce IntOp.andi x v reducesTo_S16x32_S_d0_1 h_S_) main_v18 main_c_6
  let main_c_7 : IVec S_ 32 := constantI S_ 32 0#32
  let main_v20 : IVec S16x8 32 := broadcastInDim S16x8 ![] bcast_S_S16x8 main_c_7
  let main_v21 : IVec S16x8 1 := cmpi .sge main_arg1 main_v20
  let main_c_8 : IVec S_ 32 := constantI S_ 32 32#32
  let main_v22 : IVec S16x8 32 := broadcastInDim S16x8 ![] bcast_S_S16x8 main_c_8
  let main_v23 : IVec S16x8 1 := cmpi .slt main_arg1 main_v22
  let main_v24 : IVec S16x8 1 := andi main_v21 main_v23
  let main_c_9 : IVec S_ 1 := constantI S_ 1 1#1
  let main_v25 : IVec S_ 1 := (fun x v => Host.reduce IntOp.andi x v reducesTo_S16x8_S_d0_1 h_S_) main_v24 main_c_9
  let main_v26 : IVec S_ 1 := andi main_v19 main_v25
  main_v26

def fn {F : FTy → Type} [FloatOps F] (main_arg0 : IVec S262144x32 32) (main_arg1 : IVec S16x8 32) (main_arg2 : IVec S16x8 32) : IVec S_ 1 :=
  let main_v0 : IVec S16x8x32 32 := iotaInDim S16x8x32 32 2
  let main_v1 : IVec S16x8x1 32 := broadcastInDim S16x8x1 ![0, 1] bcast_S16x8_S16x8x1_0_1 main_arg1
  let main_v2 : IVec S16x8x32 32 := broadcastInDim S16x8x32 ![0, 1, 2] bcast_S16x8x1_S16x8x32_0_1_2 main_v1
  let main_v3 : IVec S16x8x32 1 := cmpi .eq main_v2 main_v0
  let main_v4 : IVec S16x8x1 32 := broadcastInDim S16x8x1 ![0, 1] bcast_S16x8_S16x8x1_0_1 main_arg2
  let main_c : IVec S_ 32 := constantI S_ 32 0#32
  let main_v5 : IVec S16x8x32 32 := fn_where (F := F) main_v3 main_v4 main_c
  let main_c_0 : IVec S_ 32 := constantI S_ 32 0#32
  let main_v6 : IVec S16x32 32 := (fun x v => Host.reduce IntOp.addi x v reducesTo_S16x8x32_S16x32_d1 h_S_) main_v5 main_c_0
  let main_v7 : IVec S16x32 32 := iotaInDim S16x32 32 0
  let main_v8 : IVec S16x32 32 := iotaInDim S16x32 32 1
  let main_v9 : IVec S16x32 32 := addi main_v7 main_v8
  let main_c_1 : IVec S_ 32 := constantI S_ 32 3#32
  let main_v10 : IVec S16x32 32 := broadcastInDim S16x32 ![] bcast_S_S16x32 main_c_1
  let main_v11 : IVec S16x32 32 := andi main_v9 main_v10
  let main_c_2 : IVec S_ 32 := constantI S_ 32 0#32
  let main_v12 : IVec S16x32 32 := broadcastInDim S16x32 ![] bcast_S_S16x32 main_c_2
  let main_v13 : IVec S16x32 1 := cmpi .eq main_v11 main_v12
  let main_c_3 : IVec S_ 32 := constantI S_ 32 1#32
  let main_c_4 : IVec S_ 32 := constantI S_ 32 0#32
  let main_v14 : IVec S16x32 32 := fn_where_0 (F := F) main_v13 main_c_3 main_c_4
  let main_c_5 : IVec S_ 32 := constantI S_ 32 1#32
  let main_v15 : IVec S16x32 32 := broadcastInDim S16x32 ![] bcast_S_S16x32 main_c_5
  let main_v16 : IVec S16x32 32 := andi main_v6 main_v15
  fn_part1 (F := F) main_arg1 main_v14 main_v16
-- ==== Kernel.lean ====
abbrev S262144x32 : Shape := ⟨2, ![262144, 32]⟩
abbrev S16x8 : Shape := ⟨2, ![16, 8]⟩
abbrev S32x262144 : Shape := ⟨2, ![32, 262144]⟩
abbrev S16x262144 : Shape := ⟨2, ![16, 262144]⟩
abbrev S32x1024 : Shape := ⟨2, ![32, 1024]⟩
abbrev S16x1024 : Shape := ⟨2, ![16, 1024]⟩
abbrev S_ : Shape := ⟨0, ![]⟩
abbrev S16 : Shape := ⟨1, ![16]⟩
abbrev S1x16 : Shape := ⟨2, ![1, 16]⟩
abbrev S262144x16 : Shape := ⟨2, ![262144, 16]⟩

abbrev nBuf : Table → Nat
  | .hbm => 6
  | .local .scVector .vmem => 4
  | _ => 0

abbrev bufTy : (tb : Table) → Fin (nBuf tb) → BufTy
  | .hbm, ⟨0, _⟩ => ⟨S262144x32, .i32⟩
  | .hbm, ⟨1, _⟩ => ⟨S16x8, .i32⟩
  | .hbm, ⟨2, _⟩ => ⟨S16x8, .i32⟩
  | .hbm, ⟨3, _⟩ => ⟨S32x262144, .i32⟩
  | .hbm, ⟨4, _⟩ => ⟨S16x262144, .i32⟩
  | .hbm, ⟨5, _⟩ => ⟨S262144x16, .i32⟩
  | .local .scVector .vmem, ⟨0, _⟩ => ⟨S32x1024, .i32⟩
  | .local .scVector .vmem, ⟨1, _⟩ => ⟨S32x1024, .i32⟩
  | .local .scVector .vmem, ⟨2, _⟩ => ⟨S16x1024, .i32⟩
  | .local .scVector .vmem, ⟨3, _⟩ => ⟨S16x1024, .i32⟩
  | _, _ => ⟨S262144x32, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![0, v2.toNat]
def k0_off2 (i : grid0.Coords) (c1024_i32 : BitVec 32) : Fin 2 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v7 : BitVec 32 := Scalar.addi v2 c1024_i32
  ![0, v7.toNat]
@[reducible] def k0_t1_loop : Scf.Loop 32 :=
  let c0_i32_5 : BitVec 32 := 0#32
  let c64_i32 : BitVec 32 := 64#32
  let v10 : BitVec 32 := Scalar.addi c0_i32_5 c64_i32
  let c1_i32 : BitVec 32 := 1#32
  ⟨c0_i32_5, v10, c1_i32⟩
def k0_off3 (k0_t1 : Fin k0_t1_loop.trips) : Fin 2 → Nat :=
  let c0_i32_103 : BitVec 32 := 0#32
  let v93 : Index := Scalar.indexCast c0_i32_103
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v94 : Index := Scalar.indexCast v92
  ![0, v94.toNat]
def k0_off4 (k0_t1 : Fin k0_t1_loop.trips) : Fin 2 → Nat :=
  let c4_i32 : BitVec 32 := 4#32
  let v96 : Index := Scalar.indexCast c4_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v97 : Index := Scalar.indexCast v92
  ![4, v97.toNat]
def k0_off5 (k0_t1 : Fin k0_t1_loop.trips) : Fin 2 → Nat :=
  let c8_i32 : BitVec 32 := 8#32
  let v99 : Index := Scalar.indexCast c8_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v100 : Index := Scalar.indexCast v92
  ![8, v100.toNat]
def k0_off6 (k0_t1 : Fin k0_t1_loop.trips) : Fin 2 → Nat :=
  let c12_i32 : BitVec 32 := 12#32
  let v102 : Index := Scalar.indexCast c12_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v103 : Index := Scalar.indexCast v92
  ![12, v103.toNat]
def k0_off7 (k0_t1 : Fin k0_t1_loop.trips) : Fin 2 → Nat :=
  let c16_i32_104 : BitVec 32 := 16#32
  let v105 : Index := Scalar.indexCast c16_i32_104
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v106 : Index := Scalar.indexCast v92
  ![16, v106.toNat]
def k0_off8 (k0_t1 : Fin k0_t1_loop.trips) : Fin 2 → Nat :=
  let c20_i32 : BitVec 32 := 20#32
  let v108 : Index := Scalar.indexCast c20_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v109 : Index := Scalar.indexCast v92
  ![20, v109.toNat]
def k0_off9 (k0_t1 : Fin k0_t1_loop.trips) : Fin 2 → Nat :=
  let c24_i32 : BitVec 32 := 24#32
  let v111 : Index := Scalar.indexCast c24_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v112 : Index := Scalar.indexCast v92
  ![24, v112.toNat]
def k0_off10 (k0_t1 : Fin k0_t1_loop.trips) : Fin 2 → Nat :=
  let c28_i32 : BitVec 32 := 28#32
  let v114 : Index := Scalar.indexCast c28_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v115 : Index := Scalar.indexCast v92
  ![28, v115.toNat]
def k0_off11 (k0_t1 : Fin k0_t1_loop.trips) : Fin 2 → Nat :=
  let c3_i32 : BitVec 32 := 3#32
  let v126 : Index := Scalar.indexCast c3_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v127 : Index := Scalar.indexCast v92
  ![3, v127.toNat]
def k0_off12 (k0_t1 : Fin k0_t1_loop.trips) : Fin 2 → Nat :=
  let c7_i32 : BitVec 32 := 7#32
  let v129 : Index := Scalar.indexCast c7_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v130 : Index := Scalar.indexCast v92
  ![7, v130.toNat]
def k0_off13 (k0_t1 : Fin k0_t1_loop.trips) : Fin 2 → Nat :=
  let c11_i32 : BitVec 32 := 11#32
  let v132 : Index := Scalar.indexCast c11_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v133 : Index := Scalar.indexCast v92
  ![11, v133.toNat]
def k0_off14 (k0_t1 : Fin k0_t1_loop.trips) : Fin 2 → Nat :=
  let c15_i32 : BitVec 32 := 15#32
  let v135 : Index := Scalar.indexCast c15_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v136 : Index := Scalar.indexCast v92
  ![15, v136.toNat]
def k0_off15 (k0_t1 : Fin k0_t1_loop.trips) : Fin 2 → Nat :=
  let c19_i32 : BitVec 32 := 19#32
  let v138 : Index := Scalar.indexCast c19_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v139 : Index := Scalar.indexCast v92
  ![19, v139.toNat]
def k0_off16 (k0_t1 : Fin k0_t1_loop.trips) : Fin 2 → Nat :=
  let c23_i32 : BitVec 32 := 23#32
  let v141 : Index := Scalar.indexCast c23_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v142 : Index := Scalar.indexCast v92
  ![23, v142.toNat]
def k0_off17 (k0_t1 : Fin k0_t1_loop.trips) : Fin 2 → Nat :=
  let c27_i32 : BitVec 32 := 27#32
  let v144 : Index := Scalar.indexCast c27_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v145 : Index := Scalar.indexCast v92
  ![27, v145.toNat]
def k0_off18 (k0_t1 : Fin k0_t1_loop.trips) : Fin 2 → Nat :=
  let c31_i32 : BitVec 32 := 31#32
  let v147 : Index := Scalar.indexCast c31_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v148 : Index := Scalar.indexCast v92
  ![31, v148.toNat]
def k0_off19 (k0_t1 : Fin k0_t1_loop.trips) : Fin 2 → Nat :=
  let c2_i32_107 : BitVec 32 := 2#32
  let v159 : Index := Scalar.indexCast c2_i32_107
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v160 : Index := Scalar.indexCast v92
  ![2, v160.toNat]
def k0_off20 (k0_t1 : Fin k0_t1_loop.trips) : Fin 2 → Nat :=
  let c6_i32 : BitVec 32 := 6#32
  let v162 : Index := Scalar.indexCast c6_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v163 : Index := Scalar.indexCast v92
  ![6, v163.toNat]
def k0_off21 (k0_t1 : Fin k0_t1_loop.trips) : Fin 2 → Nat :=
  let c10_i32 : BitVec 32 := 10#32
  let v165 : Index := Scalar.indexCast c10_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v166 : Index := Scalar.indexCast v92
  ![10, v166.toNat]
def k0_off22 (k0_t1 : Fin k0_t1_loop.trips) : Fin 2 → Nat :=
  let c14_i32 : BitVec 32 := 14#32
  let v168 : Index := Scalar.indexCast c14_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v169 : Index := Scalar.indexCast v92
  ![14, v169.toNat]
def k0_off23 (k0_t1 : Fin k0_t1_loop.trips) : Fin 2 → Nat :=
  let c18_i32 : BitVec 32 := 18#32
  let v171 : Index := Scalar.indexCast c18_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v172 : Index := Scalar.indexCast v92
  ![18, v172.toNat]
def k0_off24 (k0_t1 : Fin k0_t1_loop.trips) : Fin 2 → Nat :=
  let c22_i32 : BitVec 32 := 22#32
  let v174 : Index := Scalar.indexCast c22_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v175 : Index := Scalar.indexCast v92
  ![22, v175.toNat]
def k0_off25 (k0_t1 : Fin k0_t1_loop.trips) : Fin 2 → Nat :=
  let c26_i32 : BitVec 32 := 26#32
  let v177 : Index := Scalar.indexCast c26_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v178 : Index := Scalar.indexCast v92
  ![26, v178.toNat]
def k0_off26 (k0_t1 : Fin k0_t1_loop.trips) : Fin 2 → Nat :=
  let c30_i32 : BitVec 32 := 30#32
  let v180 : Index := Scalar.indexCast c30_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v181 : Index := Scalar.indexCast v92
  ![30, v181.toNat]
def k0_off27 (k0_t1 : Fin k0_t1_loop.trips) : Fin 2 → Nat :=
  let c1_i32_109 : BitVec 32 := 1#32
  let v192 : Index := Scalar.indexCast c1_i32_109
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v193 : Index := Scalar.indexCast v92
  ![1, v193.toNat]
def k0_off28 (k0_t1 : Fin k0_t1_loop.trips) : Fin 2 → Nat :=
  let c5_i32 : BitVec 32 := 5#32
  let v195 : Index := Scalar.indexCast c5_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v196 : Index := Scalar.indexCast v92
  ![5, v196.toNat]
def k0_off29 (k0_t1 : Fin k0_t1_loop.trips) : Fin 2 → Nat :=
  let c9_i32 : BitVec 32 := 9#32
  let v198 : Index := Scalar.indexCast c9_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v199 : Index := Scalar.indexCast v92
  ![9, v199.toNat]
def k0_off30 (k0_t1 : Fin k0_t1_loop.trips) : Fin 2 → Nat :=
  let c13_i32 : BitVec 32 := 13#32
  let v201 : Index := Scalar.indexCast c13_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v202 : Index := Scalar.indexCast v92
  ![13, v202.toNat]
def k0_off31 (k0_t1 : Fin k0_t1_loop.trips) : Fin 2 → Nat :=
  let c17_i32 : BitVec 32 := 17#32
  let v204 : Index := Scalar.indexCast c17_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v205 : Index := Scalar.indexCast v92
  ![17, v205.toNat]
def k0_off32 (k0_t1 : Fin k0_t1_loop.trips) : Fin 2 → Nat :=
  let c21_i32 : BitVec 32 := 21#32
  let v207 : Index := Scalar.indexCast c21_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v208 : Index := Scalar.indexCast v92
  ![21, v208.toNat]
def k0_off33 (k0_t1 : Fin k0_t1_loop.trips) : Fin 2 → Nat :=
  let c25_i32 : BitVec 32 := 25#32
  let v210 : Index := Scalar.indexCast c25_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v211 : Index := Scalar.indexCast v92
  ![25, v211.toNat]
def k0_off34 (k0_t1 : Fin k0_t1_loop.trips) : Fin 2 → Nat :=
  let c29_i32 : BitVec 32 := 29#32
  let v213 : Index := Scalar.indexCast c29_i32
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v214 : Index := Scalar.indexCast v92
  ![29, v214.toNat]
def k0_off35 (k0_t1 : Fin k0_t1_loop.trips) : Fin 2 → Nat :=
  let c0_i32_111 : BitVec 32 := 0#32
  let v225 : Index := Scalar.indexCast c0_i32_111
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v226 : Index := Scalar.indexCast v92
  ![0, v226.toNat]
def k0_off36 (k0_t1 : Fin k0_t1_loop.trips) : Fin 2 → Nat :=
  let c1_i32_112 : BitVec 32 := 1#32
  let v228 : Index := Scalar.indexCast c1_i32_112
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v229 : Index := Scalar.indexCast v92
  ![1, v229.toNat]
def k0_off37 (k0_t1 : Fin k0_t1_loop.trips) : Fin 2 → Nat :=
  let c2_i32_113 : BitVec 32 := 2#32
  let v231 : Index := Scalar.indexCast c2_i32_113
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v232 : Index := Scalar.indexCast v92
  ![2, v232.toNat]
def k0_off38 (k0_t1 : Fin k0_t1_loop.trips) : Fin 2 → Nat :=
  let c3_i32_114 : BitVec 32 := 3#32
  let v234 : Index := Scalar.indexCast c3_i32_114
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v235 : Index := Scalar.indexCast v92
  ![3, v235.toNat]
def k0_off39 (k0_t1 : Fin k0_t1_loop.trips) : Fin 2 → Nat :=
  let c4_i32_115 : BitVec 32 := 4#32
  let v237 : Index := Scalar.indexCast c4_i32_115
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v238 : Index := Scalar.indexCast v92
  ![4, v238.toNat]
def k0_off40 (k0_t1 : Fin k0_t1_loop.trips) : Fin 2 → Nat :=
  let c5_i32_116 : BitVec 32 := 5#32
  let v240 : Index := Scalar.indexCast c5_i32_116
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v241 : Index := Scalar.indexCast v92
  ![5, v241.toNat]
def k0_off41 (k0_t1 : Fin k0_t1_loop.trips) : Fin 2 → Nat :=
  let c6_i32_117 : BitVec 32 := 6#32
  let v243 : Index := Scalar.indexCast c6_i32_117
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v244 : Index := Scalar.indexCast v92
  ![6, v244.toNat]
def k0_off42 (k0_t1 : Fin k0_t1_loop.trips) : Fin 2 → Nat :=
  let c7_i32_118 : BitVec 32 := 7#32
  let v246 : Index := Scalar.indexCast c7_i32_118
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v247 : Index := Scalar.indexCast v92
  ![7, v247.toNat]
def k0_off43 (k0_t1 : Fin k0_t1_loop.trips) : Fin 2 → Nat :=
  let c8_i32_119 : BitVec 32 := 8#32
  let v249 : Index := Scalar.indexCast c8_i32_119
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v250 : Index := Scalar.indexCast v92
  ![8, v250.toNat]
def k0_off44 (k0_t1 : Fin k0_t1_loop.trips) : Fin 2 → Nat :=
  let c9_i32_120 : BitVec 32 := 9#32
  let v252 : Index := Scalar.indexCast c9_i32_120
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v253 : Index := Scalar.indexCast v92
  ![9, v253.toNat]
def k0_off45 (k0_t1 : Fin k0_t1_loop.trips) : Fin 2 → Nat :=
  let c10_i32_121 : BitVec 32 := 10#32
  let v255 : Index := Scalar.indexCast c10_i32_121
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v256 : Index := Scalar.indexCast v92
  ![10, v256.toNat]
def k0_off46 (k0_t1 : Fin k0_t1_loop.trips) : Fin 2 → Nat :=
  let c11_i32_122 : BitVec 32 := 11#32
  let v258 : Index := Scalar.indexCast c11_i32_122
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v259 : Index := Scalar.indexCast v92
  ![11, v259.toNat]
def k0_off47 (k0_t1 : Fin k0_t1_loop.trips) : Fin 2 → Nat :=
  let c12_i32_123 : BitVec 32 := 12#32
  let v261 : Index := Scalar.indexCast c12_i32_123
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v262 : Index := Scalar.indexCast v92
  ![12, v262.toNat]
def k0_off48 (k0_t1 : Fin k0_t1_loop.trips) : Fin 2 → Nat :=
  let c13_i32_124 : BitVec 32 := 13#32
  let v264 : Index := Scalar.indexCast c13_i32_124
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v265 : Index := Scalar.indexCast v92
  ![13, v265.toNat]
def k0_off49 (k0_t1 : Fin k0_t1_loop.trips) : Fin 2 → Nat :=
  let c14_i32_125 : BitVec 32 := 14#32
  let v267 : Index := Scalar.indexCast c14_i32_125
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v268 : Index := Scalar.indexCast v92
  ![14, v268.toNat]
def k0_off50 (k0_t1 : Fin k0_t1_loop.trips) : Fin 2 → Nat :=
  let c15_i32_126 : BitVec 32 := 15#32
  let v270 : Index := Scalar.indexCast c15_i32_126
  let c0_i32_102 : BitVec 32 := 0#32
  let c0_i32_5 : BitVec 32 := 0#32
  let c1_i32 : BitVec 32 := 1#32
  let arg11 : BitVec 32 := Scf.iv c0_i32_5 c1_i32 k0_t1
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v271 : Index := Scalar.indexCast v92
  ![15, v271.toNat]
def k0_off51 (i : grid0.Coords) (c0_i32_7 : BitVec 32) : Fin 2 → Nat :=
  let c0_i32_8 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v11 : BitVec 32 := Scalar.addi v2 c0_i32_7
  ![0, v11.toNat]
@[reducible] def k0_t2_loop : Scf.Loop 32 :=
  let c0_i32_14 : BitVec 32 := 0#32
  let c64_i32_15 : BitVec 32 := 64#32
  let v19 : BitVec 32 := Scalar.addi c0_i32_14 c64_i32_15
  let c1_i32_16 : BitVec 32 := 1#32
  ⟨c0_i32_14, v19, c1_i32_16⟩
def k0_off52 (k0_t2 : Fin k0_t2_loop.trips) : Fin 2 → Nat :=
  let c0_i32_103 : BitVec 32 := 0#32
  let v93 : Index := Scalar.indexCast c0_i32_103
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v94 : Index := Scalar.indexCast v92
  ![0, v94.toNat]
def k0_off53 (k0_t2 : Fin k0_t2_loop.trips) : Fin 2 → Nat :=
  let c4_i32 : BitVec 32 := 4#32
  let v96 : Index := Scalar.indexCast c4_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v97 : Index := Scalar.indexCast v92
  ![4, v97.toNat]
def k0_off54 (k0_t2 : Fin k0_t2_loop.trips) : Fin 2 → Nat :=
  let c8_i32 : BitVec 32 := 8#32
  let v99 : Index := Scalar.indexCast c8_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v100 : Index := Scalar.indexCast v92
  ![8, v100.toNat]
def k0_off55 (k0_t2 : Fin k0_t2_loop.trips) : Fin 2 → Nat :=
  let c12_i32 : BitVec 32 := 12#32
  let v102 : Index := Scalar.indexCast c12_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v103 : Index := Scalar.indexCast v92
  ![12, v103.toNat]
def k0_off56 (k0_t2 : Fin k0_t2_loop.trips) : Fin 2 → Nat :=
  let c16_i32_104 : BitVec 32 := 16#32
  let v105 : Index := Scalar.indexCast c16_i32_104
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v106 : Index := Scalar.indexCast v92
  ![16, v106.toNat]
def k0_off57 (k0_t2 : Fin k0_t2_loop.trips) : Fin 2 → Nat :=
  let c20_i32 : BitVec 32 := 20#32
  let v108 : Index := Scalar.indexCast c20_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v109 : Index := Scalar.indexCast v92
  ![20, v109.toNat]
def k0_off58 (k0_t2 : Fin k0_t2_loop.trips) : Fin 2 → Nat :=
  let c24_i32 : BitVec 32 := 24#32
  let v111 : Index := Scalar.indexCast c24_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v112 : Index := Scalar.indexCast v92
  ![24, v112.toNat]
def k0_off59 (k0_t2 : Fin k0_t2_loop.trips) : Fin 2 → Nat :=
  let c28_i32 : BitVec 32 := 28#32
  let v114 : Index := Scalar.indexCast c28_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v115 : Index := Scalar.indexCast v92
  ![28, v115.toNat]
def k0_off60 (k0_t2 : Fin k0_t2_loop.trips) : Fin 2 → Nat :=
  let c3_i32 : BitVec 32 := 3#32
  let v126 : Index := Scalar.indexCast c3_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v127 : Index := Scalar.indexCast v92
  ![3, v127.toNat]
def k0_off61 (k0_t2 : Fin k0_t2_loop.trips) : Fin 2 → Nat :=
  let c7_i32 : BitVec 32 := 7#32
  let v129 : Index := Scalar.indexCast c7_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v130 : Index := Scalar.indexCast v92
  ![7, v130.toNat]
def k0_off62 (k0_t2 : Fin k0_t2_loop.trips) : Fin 2 → Nat :=
  let c11_i32 : BitVec 32 := 11#32
  let v132 : Index := Scalar.indexCast c11_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v133 : Index := Scalar.indexCast v92
  ![11, v133.toNat]
def k0_off63 (k0_t2 : Fin k0_t2_loop.trips) : Fin 2 → Nat :=
  let c15_i32 : BitVec 32 := 15#32
  let v135 : Index := Scalar.indexCast c15_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v136 : Index := Scalar.indexCast v92
  ![15, v136.toNat]
def k0_off64 (k0_t2 : Fin k0_t2_loop.trips) : Fin 2 → Nat :=
  let c19_i32 : BitVec 32 := 19#32
  let v138 : Index := Scalar.indexCast c19_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v139 : Index := Scalar.indexCast v92
  ![19, v139.toNat]
def k0_off65 (k0_t2 : Fin k0_t2_loop.trips) : Fin 2 → Nat :=
  let c23_i32 : BitVec 32 := 23#32
  let v141 : Index := Scalar.indexCast c23_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v142 : Index := Scalar.indexCast v92
  ![23, v142.toNat]
def k0_off66 (k0_t2 : Fin k0_t2_loop.trips) : Fin 2 → Nat :=
  let c27_i32 : BitVec 32 := 27#32
  let v144 : Index := Scalar.indexCast c27_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v145 : Index := Scalar.indexCast v92
  ![27, v145.toNat]
def k0_off67 (k0_t2 : Fin k0_t2_loop.trips) : Fin 2 → Nat :=
  let c31_i32 : BitVec 32 := 31#32
  let v147 : Index := Scalar.indexCast c31_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v148 : Index := Scalar.indexCast v92
  ![31, v148.toNat]
def k0_off68 (k0_t2 : Fin k0_t2_loop.trips) : Fin 2 → Nat :=
  let c2_i32_107 : BitVec 32 := 2#32
  let v159 : Index := Scalar.indexCast c2_i32_107
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v160 : Index := Scalar.indexCast v92
  ![2, v160.toNat]
def k0_off69 (k0_t2 : Fin k0_t2_loop.trips) : Fin 2 → Nat :=
  let c6_i32 : BitVec 32 := 6#32
  let v162 : Index := Scalar.indexCast c6_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v163 : Index := Scalar.indexCast v92
  ![6, v163.toNat]
def k0_off70 (k0_t2 : Fin k0_t2_loop.trips) : Fin 2 → Nat :=
  let c10_i32 : BitVec 32 := 10#32
  let v165 : Index := Scalar.indexCast c10_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v166 : Index := Scalar.indexCast v92
  ![10, v166.toNat]
def k0_off71 (k0_t2 : Fin k0_t2_loop.trips) : Fin 2 → Nat :=
  let c14_i32 : BitVec 32 := 14#32
  let v168 : Index := Scalar.indexCast c14_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v169 : Index := Scalar.indexCast v92
  ![14, v169.toNat]
def k0_off72 (k0_t2 : Fin k0_t2_loop.trips) : Fin 2 → Nat :=
  let c18_i32 : BitVec 32 := 18#32
  let v171 : Index := Scalar.indexCast c18_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v172 : Index := Scalar.indexCast v92
  ![18, v172.toNat]
def k0_off73 (k0_t2 : Fin k0_t2_loop.trips) : Fin 2 → Nat :=
  let c22_i32 : BitVec 32 := 22#32
  let v174 : Index := Scalar.indexCast c22_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v175 : Index := Scalar.indexCast v92
  ![22, v175.toNat]
def k0_off74 (k0_t2 : Fin k0_t2_loop.trips) : Fin 2 → Nat :=
  let c26_i32 : BitVec 32 := 26#32
  let v177 : Index := Scalar.indexCast c26_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v178 : Index := Scalar.indexCast v92
  ![26, v178.toNat]
def k0_off75 (k0_t2 : Fin k0_t2_loop.trips) : Fin 2 → Nat :=
  let c30_i32 : BitVec 32 := 30#32
  let v180 : Index := Scalar.indexCast c30_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v181 : Index := Scalar.indexCast v92
  ![30, v181.toNat]
def k0_off76 (k0_t2 : Fin k0_t2_loop.trips) : Fin 2 → Nat :=
  let c1_i32_109 : BitVec 32 := 1#32
  let v192 : Index := Scalar.indexCast c1_i32_109
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v193 : Index := Scalar.indexCast v92
  ![1, v193.toNat]
def k0_off77 (k0_t2 : Fin k0_t2_loop.trips) : Fin 2 → Nat :=
  let c5_i32 : BitVec 32 := 5#32
  let v195 : Index := Scalar.indexCast c5_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v196 : Index := Scalar.indexCast v92
  ![5, v196.toNat]
def k0_off78 (k0_t2 : Fin k0_t2_loop.trips) : Fin 2 → Nat :=
  let c9_i32 : BitVec 32 := 9#32
  let v198 : Index := Scalar.indexCast c9_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v199 : Index := Scalar.indexCast v92
  ![9, v199.toNat]
def k0_off79 (k0_t2 : Fin k0_t2_loop.trips) : Fin 2 → Nat :=
  let c13_i32 : BitVec 32 := 13#32
  let v201 : Index := Scalar.indexCast c13_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v202 : Index := Scalar.indexCast v92
  ![13, v202.toNat]
def k0_off80 (k0_t2 : Fin k0_t2_loop.trips) : Fin 2 → Nat :=
  let c17_i32 : BitVec 32 := 17#32
  let v204 : Index := Scalar.indexCast c17_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v205 : Index := Scalar.indexCast v92
  ![17, v205.toNat]
def k0_off81 (k0_t2 : Fin k0_t2_loop.trips) : Fin 2 → Nat :=
  let c21_i32 : BitVec 32 := 21#32
  let v207 : Index := Scalar.indexCast c21_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v208 : Index := Scalar.indexCast v92
  ![21, v208.toNat]
def k0_off82 (k0_t2 : Fin k0_t2_loop.trips) : Fin 2 → Nat :=
  let c25_i32 : BitVec 32 := 25#32
  let v210 : Index := Scalar.indexCast c25_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v211 : Index := Scalar.indexCast v92
  ![25, v211.toNat]
def k0_off83 (k0_t2 : Fin k0_t2_loop.trips) : Fin 2 → Nat :=
  let c29_i32 : BitVec 32 := 29#32
  let v213 : Index := Scalar.indexCast c29_i32
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v214 : Index := Scalar.indexCast v92
  ![29, v214.toNat]
def k0_off84 (k0_t2 : Fin k0_t2_loop.trips) : Fin 2 → Nat :=
  let c0_i32_111 : BitVec 32 := 0#32
  let v225 : Index := Scalar.indexCast c0_i32_111
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v226 : Index := Scalar.indexCast v92
  ![0, v226.toNat]
def k0_off85 (k0_t2 : Fin k0_t2_loop.trips) : Fin 2 → Nat :=
  let c1_i32_112 : BitVec 32 := 1#32
  let v228 : Index := Scalar.indexCast c1_i32_112
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v229 : Index := Scalar.indexCast v92
  ![1, v229.toNat]
def k0_off86 (k0_t2 : Fin k0_t2_loop.trips) : Fin 2 → Nat :=
  let c2_i32_113 : BitVec 32 := 2#32
  let v231 : Index := Scalar.indexCast c2_i32_113
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v232 : Index := Scalar.indexCast v92
  ![2, v232.toNat]
def k0_off87 (k0_t2 : Fin k0_t2_loop.trips) : Fin 2 → Nat :=
  let c3_i32_114 : BitVec 32 := 3#32
  let v234 : Index := Scalar.indexCast c3_i32_114
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v235 : Index := Scalar.indexCast v92
  ![3, v235.toNat]
def k0_off88 (k0_t2 : Fin k0_t2_loop.trips) : Fin 2 → Nat :=
  let c4_i32_115 : BitVec 32 := 4#32
  let v237 : Index := Scalar.indexCast c4_i32_115
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v238 : Index := Scalar.indexCast v92
  ![4, v238.toNat]
def k0_off89 (k0_t2 : Fin k0_t2_loop.trips) : Fin 2 → Nat :=
  let c5_i32_116 : BitVec 32 := 5#32
  let v240 : Index := Scalar.indexCast c5_i32_116
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v241 : Index := Scalar.indexCast v92
  ![5, v241.toNat]
def k0_off90 (k0_t2 : Fin k0_t2_loop.trips) : Fin 2 → Nat :=
  let c6_i32_117 : BitVec 32 := 6#32
  let v243 : Index := Scalar.indexCast c6_i32_117
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v244 : Index := Scalar.indexCast v92
  ![6, v244.toNat]
def k0_off91 (k0_t2 : Fin k0_t2_loop.trips) : Fin 2 → Nat :=
  let c7_i32_118 : BitVec 32 := 7#32
  let v246 : Index := Scalar.indexCast c7_i32_118
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v247 : Index := Scalar.indexCast v92
  ![7, v247.toNat]
def k0_off92 (k0_t2 : Fin k0_t2_loop.trips) : Fin 2 → Nat :=
  let c8_i32_119 : BitVec 32 := 8#32
  let v249 : Index := Scalar.indexCast c8_i32_119
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v250 : Index := Scalar.indexCast v92
  ![8, v250.toNat]
def k0_off93 (k0_t2 : Fin k0_t2_loop.trips) : Fin 2 → Nat :=
  let c9_i32_120 : BitVec 32 := 9#32
  let v252 : Index := Scalar.indexCast c9_i32_120
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v253 : Index := Scalar.indexCast v92
  ![9, v253.toNat]
def k0_off94 (k0_t2 : Fin k0_t2_loop.trips) : Fin 2 → Nat :=
  let c10_i32_121 : BitVec 32 := 10#32
  let v255 : Index := Scalar.indexCast c10_i32_121
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v256 : Index := Scalar.indexCast v92
  ![10, v256.toNat]
def k0_off95 (k0_t2 : Fin k0_t2_loop.trips) : Fin 2 → Nat :=
  let c11_i32_122 : BitVec 32 := 11#32
  let v258 : Index := Scalar.indexCast c11_i32_122
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v259 : Index := Scalar.indexCast v92
  ![11, v259.toNat]
def k0_off96 (k0_t2 : Fin k0_t2_loop.trips) : Fin 2 → Nat :=
  let c12_i32_123 : BitVec 32 := 12#32
  let v261 : Index := Scalar.indexCast c12_i32_123
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v262 : Index := Scalar.indexCast v92
  ![12, v262.toNat]
def k0_off97 (k0_t2 : Fin k0_t2_loop.trips) : Fin 2 → Nat :=
  let c13_i32_124 : BitVec 32 := 13#32
  let v264 : Index := Scalar.indexCast c13_i32_124
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v265 : Index := Scalar.indexCast v92
  ![13, v265.toNat]
def k0_off98 (k0_t2 : Fin k0_t2_loop.trips) : Fin 2 → Nat :=
  let c14_i32_125 : BitVec 32 := 14#32
  let v267 : Index := Scalar.indexCast c14_i32_125
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v268 : Index := Scalar.indexCast v92
  ![14, v268.toNat]
def k0_off99 (k0_t2 : Fin k0_t2_loop.trips) : Fin 2 → Nat :=
  let c15_i32_126 : BitVec 32 := 15#32
  let v270 : Index := Scalar.indexCast c15_i32_126
  let c0_i32_102 : BitVec 32 := 0#32
  let c0_i32_14 : BitVec 32 := 0#32
  let c1_i32_16 : BitVec 32 := 1#32
  let arg11 : BitVec 32 := Scf.iv c0_i32_14 c1_i32_16 k0_t2
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v271 : Index := Scalar.indexCast v92
  ![15, v271.toNat]
@[reducible] def k0_t3_loop : Scf.Loop 32 :=
  let c0_i32_27 : BitVec 32 := 0#32
  let c64_i32_28 : BitVec 32 := 64#32
  let v30 : BitVec 32 := Scalar.addi c0_i32_27 c64_i32_28
  let c1_i32_29 : BitVec 32 := 1#32
  ⟨c0_i32_27, v30, c1_i32_29⟩
def k0_off100 (k0_t3 : Fin k0_t3_loop.trips) : Fin 2 → Nat :=
  let c0_i32_103 : BitVec 32 := 0#32
  let v93 : Index := Scalar.indexCast c0_i32_103
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v94 : Index := Scalar.indexCast v92
  ![0, v94.toNat]
def k0_off101 (k0_t3 : Fin k0_t3_loop.trips) : Fin 2 → Nat :=
  let c4_i32 : BitVec 32 := 4#32
  let v96 : Index := Scalar.indexCast c4_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v97 : Index := Scalar.indexCast v92
  ![4, v97.toNat]
def k0_off102 (k0_t3 : Fin k0_t3_loop.trips) : Fin 2 → Nat :=
  let c8_i32 : BitVec 32 := 8#32
  let v99 : Index := Scalar.indexCast c8_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v100 : Index := Scalar.indexCast v92
  ![8, v100.toNat]
def k0_off103 (k0_t3 : Fin k0_t3_loop.trips) : Fin 2 → Nat :=
  let c12_i32 : BitVec 32 := 12#32
  let v102 : Index := Scalar.indexCast c12_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v103 : Index := Scalar.indexCast v92
  ![12, v103.toNat]
def k0_off104 (k0_t3 : Fin k0_t3_loop.trips) : Fin 2 → Nat :=
  let c16_i32_104 : BitVec 32 := 16#32
  let v105 : Index := Scalar.indexCast c16_i32_104
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v106 : Index := Scalar.indexCast v92
  ![16, v106.toNat]
def k0_off105 (k0_t3 : Fin k0_t3_loop.trips) : Fin 2 → Nat :=
  let c20_i32 : BitVec 32 := 20#32
  let v108 : Index := Scalar.indexCast c20_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v109 : Index := Scalar.indexCast v92
  ![20, v109.toNat]
def k0_off106 (k0_t3 : Fin k0_t3_loop.trips) : Fin 2 → Nat :=
  let c24_i32 : BitVec 32 := 24#32
  let v111 : Index := Scalar.indexCast c24_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v112 : Index := Scalar.indexCast v92
  ![24, v112.toNat]
def k0_off107 (k0_t3 : Fin k0_t3_loop.trips) : Fin 2 → Nat :=
  let c28_i32 : BitVec 32 := 28#32
  let v114 : Index := Scalar.indexCast c28_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v115 : Index := Scalar.indexCast v92
  ![28, v115.toNat]
def k0_off108 (k0_t3 : Fin k0_t3_loop.trips) : Fin 2 → Nat :=
  let c3_i32 : BitVec 32 := 3#32
  let v126 : Index := Scalar.indexCast c3_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v127 : Index := Scalar.indexCast v92
  ![3, v127.toNat]
def k0_off109 (k0_t3 : Fin k0_t3_loop.trips) : Fin 2 → Nat :=
  let c7_i32 : BitVec 32 := 7#32
  let v129 : Index := Scalar.indexCast c7_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v130 : Index := Scalar.indexCast v92
  ![7, v130.toNat]
def k0_off110 (k0_t3 : Fin k0_t3_loop.trips) : Fin 2 → Nat :=
  let c11_i32 : BitVec 32 := 11#32
  let v132 : Index := Scalar.indexCast c11_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v133 : Index := Scalar.indexCast v92
  ![11, v133.toNat]
def k0_off111 (k0_t3 : Fin k0_t3_loop.trips) : Fin 2 → Nat :=
  let c15_i32 : BitVec 32 := 15#32
  let v135 : Index := Scalar.indexCast c15_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v136 : Index := Scalar.indexCast v92
  ![15, v136.toNat]
def k0_off112 (k0_t3 : Fin k0_t3_loop.trips) : Fin 2 → Nat :=
  let c19_i32 : BitVec 32 := 19#32
  let v138 : Index := Scalar.indexCast c19_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v139 : Index := Scalar.indexCast v92
  ![19, v139.toNat]
def k0_off113 (k0_t3 : Fin k0_t3_loop.trips) : Fin 2 → Nat :=
  let c23_i32 : BitVec 32 := 23#32
  let v141 : Index := Scalar.indexCast c23_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v142 : Index := Scalar.indexCast v92
  ![23, v142.toNat]
def k0_off114 (k0_t3 : Fin k0_t3_loop.trips) : Fin 2 → Nat :=
  let c27_i32 : BitVec 32 := 27#32
  let v144 : Index := Scalar.indexCast c27_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v145 : Index := Scalar.indexCast v92
  ![27, v145.toNat]
def k0_off115 (k0_t3 : Fin k0_t3_loop.trips) : Fin 2 → Nat :=
  let c31_i32 : BitVec 32 := 31#32
  let v147 : Index := Scalar.indexCast c31_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v148 : Index := Scalar.indexCast v92
  ![31, v148.toNat]
def k0_off116 (k0_t3 : Fin k0_t3_loop.trips) : Fin 2 → Nat :=
  let c2_i32_107 : BitVec 32 := 2#32
  let v159 : Index := Scalar.indexCast c2_i32_107
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v160 : Index := Scalar.indexCast v92
  ![2, v160.toNat]
def k0_off117 (k0_t3 : Fin k0_t3_loop.trips) : Fin 2 → Nat :=
  let c6_i32 : BitVec 32 := 6#32
  let v162 : Index := Scalar.indexCast c6_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v163 : Index := Scalar.indexCast v92
  ![6, v163.toNat]
def k0_off118 (k0_t3 : Fin k0_t3_loop.trips) : Fin 2 → Nat :=
  let c10_i32 : BitVec 32 := 10#32
  let v165 : Index := Scalar.indexCast c10_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v166 : Index := Scalar.indexCast v92
  ![10, v166.toNat]
def k0_off119 (k0_t3 : Fin k0_t3_loop.trips) : Fin 2 → Nat :=
  let c14_i32 : BitVec 32 := 14#32
  let v168 : Index := Scalar.indexCast c14_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v169 : Index := Scalar.indexCast v92
  ![14, v169.toNat]
def k0_off120 (k0_t3 : Fin k0_t3_loop.trips) : Fin 2 → Nat :=
  let c18_i32 : BitVec 32 := 18#32
  let v171 : Index := Scalar.indexCast c18_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v172 : Index := Scalar.indexCast v92
  ![18, v172.toNat]
def k0_off121 (k0_t3 : Fin k0_t3_loop.trips) : Fin 2 → Nat :=
  let c22_i32 : BitVec 32 := 22#32
  let v174 : Index := Scalar.indexCast c22_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v175 : Index := Scalar.indexCast v92
  ![22, v175.toNat]
def k0_off122 (k0_t3 : Fin k0_t3_loop.trips) : Fin 2 → Nat :=
  let c26_i32 : BitVec 32 := 26#32
  let v177 : Index := Scalar.indexCast c26_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v178 : Index := Scalar.indexCast v92
  ![26, v178.toNat]
def k0_off123 (k0_t3 : Fin k0_t3_loop.trips) : Fin 2 → Nat :=
  let c30_i32 : BitVec 32 := 30#32
  let v180 : Index := Scalar.indexCast c30_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v181 : Index := Scalar.indexCast v92
  ![30, v181.toNat]
def k0_off124 (k0_t3 : Fin k0_t3_loop.trips) : Fin 2 → Nat :=
  let c1_i32_109 : BitVec 32 := 1#32
  let v192 : Index := Scalar.indexCast c1_i32_109
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v193 : Index := Scalar.indexCast v92
  ![1, v193.toNat]
def k0_off125 (k0_t3 : Fin k0_t3_loop.trips) : Fin 2 → Nat :=
  let c5_i32 : BitVec 32 := 5#32
  let v195 : Index := Scalar.indexCast c5_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v196 : Index := Scalar.indexCast v92
  ![5, v196.toNat]
def k0_off126 (k0_t3 : Fin k0_t3_loop.trips) : Fin 2 → Nat :=
  let c9_i32 : BitVec 32 := 9#32
  let v198 : Index := Scalar.indexCast c9_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v199 : Index := Scalar.indexCast v92
  ![9, v199.toNat]
def k0_off127 (k0_t3 : Fin k0_t3_loop.trips) : Fin 2 → Nat :=
  let c13_i32 : BitVec 32 := 13#32
  let v201 : Index := Scalar.indexCast c13_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v202 : Index := Scalar.indexCast v92
  ![13, v202.toNat]
def k0_off128 (k0_t3 : Fin k0_t3_loop.trips) : Fin 2 → Nat :=
  let c17_i32 : BitVec 32 := 17#32
  let v204 : Index := Scalar.indexCast c17_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v205 : Index := Scalar.indexCast v92
  ![17, v205.toNat]
def k0_off129 (k0_t3 : Fin k0_t3_loop.trips) : Fin 2 → Nat :=
  let c21_i32 : BitVec 32 := 21#32
  let v207 : Index := Scalar.indexCast c21_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v208 : Index := Scalar.indexCast v92
  ![21, v208.toNat]
def k0_off130 (k0_t3 : Fin k0_t3_loop.trips) : Fin 2 → Nat :=
  let c25_i32 : BitVec 32 := 25#32
  let v210 : Index := Scalar.indexCast c25_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v211 : Index := Scalar.indexCast v92
  ![25, v211.toNat]
def k0_off131 (k0_t3 : Fin k0_t3_loop.trips) : Fin 2 → Nat :=
  let c29_i32 : BitVec 32 := 29#32
  let v213 : Index := Scalar.indexCast c29_i32
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v214 : Index := Scalar.indexCast v92
  ![29, v214.toNat]
def k0_off132 (k0_t3 : Fin k0_t3_loop.trips) : Fin 2 → Nat :=
  let c0_i32_111 : BitVec 32 := 0#32
  let v225 : Index := Scalar.indexCast c0_i32_111
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v226 : Index := Scalar.indexCast v92
  ![0, v226.toNat]
def k0_off133 (k0_t3 : Fin k0_t3_loop.trips) : Fin 2 → Nat :=
  let c1_i32_112 : BitVec 32 := 1#32
  let v228 : Index := Scalar.indexCast c1_i32_112
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v229 : Index := Scalar.indexCast v92
  ![1, v229.toNat]
def k0_off134 (k0_t3 : Fin k0_t3_loop.trips) : Fin 2 → Nat :=
  let c2_i32_113 : BitVec 32 := 2#32
  let v231 : Index := Scalar.indexCast c2_i32_113
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v232 : Index := Scalar.indexCast v92
  ![2, v232.toNat]
def k0_off135 (k0_t3 : Fin k0_t3_loop.trips) : Fin 2 → Nat :=
  let c3_i32_114 : BitVec 32 := 3#32
  let v234 : Index := Scalar.indexCast c3_i32_114
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v235 : Index := Scalar.indexCast v92
  ![3, v235.toNat]
def k0_off136 (k0_t3 : Fin k0_t3_loop.trips) : Fin 2 → Nat :=
  let c4_i32_115 : BitVec 32 := 4#32
  let v237 : Index := Scalar.indexCast c4_i32_115
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v238 : Index := Scalar.indexCast v92
  ![4, v238.toNat]
def k0_off137 (k0_t3 : Fin k0_t3_loop.trips) : Fin 2 → Nat :=
  let c5_i32_116 : BitVec 32 := 5#32
  let v240 : Index := Scalar.indexCast c5_i32_116
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v241 : Index := Scalar.indexCast v92
  ![5, v241.toNat]
def k0_off138 (k0_t3 : Fin k0_t3_loop.trips) : Fin 2 → Nat :=
  let c6_i32_117 : BitVec 32 := 6#32
  let v243 : Index := Scalar.indexCast c6_i32_117
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v244 : Index := Scalar.indexCast v92
  ![6, v244.toNat]
def k0_off139 (k0_t3 : Fin k0_t3_loop.trips) : Fin 2 → Nat :=
  let c7_i32_118 : BitVec 32 := 7#32
  let v246 : Index := Scalar.indexCast c7_i32_118
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v247 : Index := Scalar.indexCast v92
  ![7, v247.toNat]
def k0_off140 (k0_t3 : Fin k0_t3_loop.trips) : Fin 2 → Nat :=
  let c8_i32_119 : BitVec 32 := 8#32
  let v249 : Index := Scalar.indexCast c8_i32_119
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v250 : Index := Scalar.indexCast v92
  ![8, v250.toNat]
def k0_off141 (k0_t3 : Fin k0_t3_loop.trips) : Fin 2 → Nat :=
  let c9_i32_120 : BitVec 32 := 9#32
  let v252 : Index := Scalar.indexCast c9_i32_120
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v253 : Index := Scalar.indexCast v92
  ![9, v253.toNat]
def k0_off142 (k0_t3 : Fin k0_t3_loop.trips) : Fin 2 → Nat :=
  let c10_i32_121 : BitVec 32 := 10#32
  let v255 : Index := Scalar.indexCast c10_i32_121
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v256 : Index := Scalar.indexCast v92
  ![10, v256.toNat]
def k0_off143 (k0_t3 : Fin k0_t3_loop.trips) : Fin 2 → Nat :=
  let c11_i32_122 : BitVec 32 := 11#32
  let v258 : Index := Scalar.indexCast c11_i32_122
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v259 : Index := Scalar.indexCast v92
  ![11, v259.toNat]
def k0_off144 (k0_t3 : Fin k0_t3_loop.trips) : Fin 2 → Nat :=
  let c12_i32_123 : BitVec 32 := 12#32
  let v261 : Index := Scalar.indexCast c12_i32_123
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v262 : Index := Scalar.indexCast v92
  ![12, v262.toNat]
def k0_off145 (k0_t3 : Fin k0_t3_loop.trips) : Fin 2 → Nat :=
  let c13_i32_124 : BitVec 32 := 13#32
  let v264 : Index := Scalar.indexCast c13_i32_124
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v265 : Index := Scalar.indexCast v92
  ![13, v265.toNat]
def k0_off146 (k0_t3 : Fin k0_t3_loop.trips) : Fin 2 → Nat :=
  let c14_i32_125 : BitVec 32 := 14#32
  let v267 : Index := Scalar.indexCast c14_i32_125
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v268 : Index := Scalar.indexCast v92
  ![14, v268.toNat]
def k0_off147 (k0_t3 : Fin k0_t3_loop.trips) : Fin 2 → Nat :=
  let c15_i32_126 : BitVec 32 := 15#32
  let v270 : Index := Scalar.indexCast c15_i32_126
  let c0_i32_102 : BitVec 32 := 0#32
  let c0_i32_27 : BitVec 32 := 0#32
  let c1_i32_29 : BitVec 32 := 1#32
  let arg11 : BitVec 32 := Scf.iv c0_i32_27 c1_i32_29 k0_t3
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v271 : Index := Scalar.indexCast v92
  ![15, v271.toNat]
@[reducible] def k0_t4_loop : Scf.Loop 32 :=
  let c0_i32_40 : BitVec 32 := 0#32
  let c64_i32_41 : BitVec 32 := 64#32
  let v41 : BitVec 32 := Scalar.addi c0_i32_40 c64_i32_41
  let c1_i32_42 : BitVec 32 := 1#32
  ⟨c0_i32_40, v41, c1_i32_42⟩
def k0_off148 (k0_t4 : Fin k0_t4_loop.trips) : Fin 2 → Nat :=
  let c0_i32_103 : BitVec 32 := 0#32
  let v93 : Index := Scalar.indexCast c0_i32_103
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v94 : Index := Scalar.indexCast v92
  ![0, v94.toNat]
def k0_off149 (k0_t4 : Fin k0_t4_loop.trips) : Fin 2 → Nat :=
  let c4_i32 : BitVec 32 := 4#32
  let v96 : Index := Scalar.indexCast c4_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v97 : Index := Scalar.indexCast v92
  ![4, v97.toNat]
def k0_off150 (k0_t4 : Fin k0_t4_loop.trips) : Fin 2 → Nat :=
  let c8_i32 : BitVec 32 := 8#32
  let v99 : Index := Scalar.indexCast c8_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v100 : Index := Scalar.indexCast v92
  ![8, v100.toNat]
def k0_off151 (k0_t4 : Fin k0_t4_loop.trips) : Fin 2 → Nat :=
  let c12_i32 : BitVec 32 := 12#32
  let v102 : Index := Scalar.indexCast c12_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v103 : Index := Scalar.indexCast v92
  ![12, v103.toNat]
def k0_off152 (k0_t4 : Fin k0_t4_loop.trips) : Fin 2 → Nat :=
  let c16_i32_104 : BitVec 32 := 16#32
  let v105 : Index := Scalar.indexCast c16_i32_104
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v106 : Index := Scalar.indexCast v92
  ![16, v106.toNat]
def k0_off153 (k0_t4 : Fin k0_t4_loop.trips) : Fin 2 → Nat :=
  let c20_i32 : BitVec 32 := 20#32
  let v108 : Index := Scalar.indexCast c20_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v109 : Index := Scalar.indexCast v92
  ![20, v109.toNat]
def k0_off154 (k0_t4 : Fin k0_t4_loop.trips) : Fin 2 → Nat :=
  let c24_i32 : BitVec 32 := 24#32
  let v111 : Index := Scalar.indexCast c24_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v112 : Index := Scalar.indexCast v92
  ![24, v112.toNat]
def k0_off155 (k0_t4 : Fin k0_t4_loop.trips) : Fin 2 → Nat :=
  let c28_i32 : BitVec 32 := 28#32
  let v114 : Index := Scalar.indexCast c28_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v115 : Index := Scalar.indexCast v92
  ![28, v115.toNat]
def k0_off156 (k0_t4 : Fin k0_t4_loop.trips) : Fin 2 → Nat :=
  let c3_i32 : BitVec 32 := 3#32
  let v126 : Index := Scalar.indexCast c3_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v127 : Index := Scalar.indexCast v92
  ![3, v127.toNat]
def k0_off157 (k0_t4 : Fin k0_t4_loop.trips) : Fin 2 → Nat :=
  let c7_i32 : BitVec 32 := 7#32
  let v129 : Index := Scalar.indexCast c7_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v130 : Index := Scalar.indexCast v92
  ![7, v130.toNat]
def k0_off158 (k0_t4 : Fin k0_t4_loop.trips) : Fin 2 → Nat :=
  let c11_i32 : BitVec 32 := 11#32
  let v132 : Index := Scalar.indexCast c11_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v133 : Index := Scalar.indexCast v92
  ![11, v133.toNat]
def k0_off159 (k0_t4 : Fin k0_t4_loop.trips) : Fin 2 → Nat :=
  let c15_i32 : BitVec 32 := 15#32
  let v135 : Index := Scalar.indexCast c15_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v136 : Index := Scalar.indexCast v92
  ![15, v136.toNat]
def k0_off160 (k0_t4 : Fin k0_t4_loop.trips) : Fin 2 → Nat :=
  let c19_i32 : BitVec 32 := 19#32
  let v138 : Index := Scalar.indexCast c19_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v139 : Index := Scalar.indexCast v92
  ![19, v139.toNat]
def k0_off161 (k0_t4 : Fin k0_t4_loop.trips) : Fin 2 → Nat :=
  let c23_i32 : BitVec 32 := 23#32
  let v141 : Index := Scalar.indexCast c23_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v142 : Index := Scalar.indexCast v92
  ![23, v142.toNat]
def k0_off162 (k0_t4 : Fin k0_t4_loop.trips) : Fin 2 → Nat :=
  let c27_i32 : BitVec 32 := 27#32
  let v144 : Index := Scalar.indexCast c27_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v145 : Index := Scalar.indexCast v92
  ![27, v145.toNat]
def k0_off163 (k0_t4 : Fin k0_t4_loop.trips) : Fin 2 → Nat :=
  let c31_i32 : BitVec 32 := 31#32
  let v147 : Index := Scalar.indexCast c31_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v148 : Index := Scalar.indexCast v92
  ![31, v148.toNat]
def k0_off164 (k0_t4 : Fin k0_t4_loop.trips) : Fin 2 → Nat :=
  let c2_i32_107 : BitVec 32 := 2#32
  let v159 : Index := Scalar.indexCast c2_i32_107
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v160 : Index := Scalar.indexCast v92
  ![2, v160.toNat]
def k0_off165 (k0_t4 : Fin k0_t4_loop.trips) : Fin 2 → Nat :=
  let c6_i32 : BitVec 32 := 6#32
  let v162 : Index := Scalar.indexCast c6_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v163 : Index := Scalar.indexCast v92
  ![6, v163.toNat]
def k0_off166 (k0_t4 : Fin k0_t4_loop.trips) : Fin 2 → Nat :=
  let c10_i32 : BitVec 32 := 10#32
  let v165 : Index := Scalar.indexCast c10_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v166 : Index := Scalar.indexCast v92
  ![10, v166.toNat]
def k0_off167 (k0_t4 : Fin k0_t4_loop.trips) : Fin 2 → Nat :=
  let c14_i32 : BitVec 32 := 14#32
  let v168 : Index := Scalar.indexCast c14_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v169 : Index := Scalar.indexCast v92
  ![14, v169.toNat]
def k0_off168 (k0_t4 : Fin k0_t4_loop.trips) : Fin 2 → Nat :=
  let c18_i32 : BitVec 32 := 18#32
  let v171 : Index := Scalar.indexCast c18_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v172 : Index := Scalar.indexCast v92
  ![18, v172.toNat]
def k0_off169 (k0_t4 : Fin k0_t4_loop.trips) : Fin 2 → Nat :=
  let c22_i32 : BitVec 32 := 22#32
  let v174 : Index := Scalar.indexCast c22_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v175 : Index := Scalar.indexCast v92
  ![22, v175.toNat]
def k0_off170 (k0_t4 : Fin k0_t4_loop.trips) : Fin 2 → Nat :=
  let c26_i32 : BitVec 32 := 26#32
  let v177 : Index := Scalar.indexCast c26_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v178 : Index := Scalar.indexCast v92
  ![26, v178.toNat]
def k0_off171 (k0_t4 : Fin k0_t4_loop.trips) : Fin 2 → Nat :=
  let c30_i32 : BitVec 32 := 30#32
  let v180 : Index := Scalar.indexCast c30_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v181 : Index := Scalar.indexCast v92
  ![30, v181.toNat]
def k0_off172 (k0_t4 : Fin k0_t4_loop.trips) : Fin 2 → Nat :=
  let c1_i32_109 : BitVec 32 := 1#32
  let v192 : Index := Scalar.indexCast c1_i32_109
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v193 : Index := Scalar.indexCast v92
  ![1, v193.toNat]
def k0_off173 (k0_t4 : Fin k0_t4_loop.trips) : Fin 2 → Nat :=
  let c5_i32 : BitVec 32 := 5#32
  let v195 : Index := Scalar.indexCast c5_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v196 : Index := Scalar.indexCast v92
  ![5, v196.toNat]
def k0_off174 (k0_t4 : Fin k0_t4_loop.trips) : Fin 2 → Nat :=
  let c9_i32 : BitVec 32 := 9#32
  let v198 : Index := Scalar.indexCast c9_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v199 : Index := Scalar.indexCast v92
  ![9, v199.toNat]
def k0_off175 (k0_t4 : Fin k0_t4_loop.trips) : Fin 2 → Nat :=
  let c13_i32 : BitVec 32 := 13#32
  let v201 : Index := Scalar.indexCast c13_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v202 : Index := Scalar.indexCast v92
  ![13, v202.toNat]
def k0_off176 (k0_t4 : Fin k0_t4_loop.trips) : Fin 2 → Nat :=
  let c17_i32 : BitVec 32 := 17#32
  let v204 : Index := Scalar.indexCast c17_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v205 : Index := Scalar.indexCast v92
  ![17, v205.toNat]
def k0_off177 (k0_t4 : Fin k0_t4_loop.trips) : Fin 2 → Nat :=
  let c21_i32 : BitVec 32 := 21#32
  let v207 : Index := Scalar.indexCast c21_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v208 : Index := Scalar.indexCast v92
  ![21, v208.toNat]
def k0_off178 (k0_t4 : Fin k0_t4_loop.trips) : Fin 2 → Nat :=
  let c25_i32 : BitVec 32 := 25#32
  let v210 : Index := Scalar.indexCast c25_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v211 : Index := Scalar.indexCast v92
  ![25, v211.toNat]
def k0_off179 (k0_t4 : Fin k0_t4_loop.trips) : Fin 2 → Nat :=
  let c29_i32 : BitVec 32 := 29#32
  let v213 : Index := Scalar.indexCast c29_i32
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v214 : Index := Scalar.indexCast v92
  ![29, v214.toNat]
def k0_off180 (k0_t4 : Fin k0_t4_loop.trips) : Fin 2 → Nat :=
  let c0_i32_111 : BitVec 32 := 0#32
  let v225 : Index := Scalar.indexCast c0_i32_111
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v226 : Index := Scalar.indexCast v92
  ![0, v226.toNat]
def k0_off181 (k0_t4 : Fin k0_t4_loop.trips) : Fin 2 → Nat :=
  let c1_i32_112 : BitVec 32 := 1#32
  let v228 : Index := Scalar.indexCast c1_i32_112
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v229 : Index := Scalar.indexCast v92
  ![1, v229.toNat]
def k0_off182 (k0_t4 : Fin k0_t4_loop.trips) : Fin 2 → Nat :=
  let c2_i32_113 : BitVec 32 := 2#32
  let v231 : Index := Scalar.indexCast c2_i32_113
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v232 : Index := Scalar.indexCast v92
  ![2, v232.toNat]
def k0_off183 (k0_t4 : Fin k0_t4_loop.trips) : Fin 2 → Nat :=
  let c3_i32_114 : BitVec 32 := 3#32
  let v234 : Index := Scalar.indexCast c3_i32_114
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v235 : Index := Scalar.indexCast v92
  ![3, v235.toNat]
def k0_off184 (k0_t4 : Fin k0_t4_loop.trips) : Fin 2 → Nat :=
  let c4_i32_115 : BitVec 32 := 4#32
  let v237 : Index := Scalar.indexCast c4_i32_115
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v238 : Index := Scalar.indexCast v92
  ![4, v238.toNat]
def k0_off185 (k0_t4 : Fin k0_t4_loop.trips) : Fin 2 → Nat :=
  let c5_i32_116 : BitVec 32 := 5#32
  let v240 : Index := Scalar.indexCast c5_i32_116
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v241 : Index := Scalar.indexCast v92
  ![5, v241.toNat]
def k0_off186 (k0_t4 : Fin k0_t4_loop.trips) : Fin 2 → Nat :=
  let c6_i32_117 : BitVec 32 := 6#32
  let v243 : Index := Scalar.indexCast c6_i32_117
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v244 : Index := Scalar.indexCast v92
  ![6, v244.toNat]
def k0_off187 (k0_t4 : Fin k0_t4_loop.trips) : Fin 2 → Nat :=
  let c7_i32_118 : BitVec 32 := 7#32
  let v246 : Index := Scalar.indexCast c7_i32_118
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v247 : Index := Scalar.indexCast v92
  ![7, v247.toNat]
def k0_off188 (k0_t4 : Fin k0_t4_loop.trips) : Fin 2 → Nat :=
  let c8_i32_119 : BitVec 32 := 8#32
  let v249 : Index := Scalar.indexCast c8_i32_119
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v250 : Index := Scalar.indexCast v92
  ![8, v250.toNat]
def k0_off189 (k0_t4 : Fin k0_t4_loop.trips) : Fin 2 → Nat :=
  let c9_i32_120 : BitVec 32 := 9#32
  let v252 : Index := Scalar.indexCast c9_i32_120
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v253 : Index := Scalar.indexCast v92
  ![9, v253.toNat]
def k0_off190 (k0_t4 : Fin k0_t4_loop.trips) : Fin 2 → Nat :=
  let c10_i32_121 : BitVec 32 := 10#32
  let v255 : Index := Scalar.indexCast c10_i32_121
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v256 : Index := Scalar.indexCast v92
  ![10, v256.toNat]
def k0_off191 (k0_t4 : Fin k0_t4_loop.trips) : Fin 2 → Nat :=
  let c11_i32_122 : BitVec 32 := 11#32
  let v258 : Index := Scalar.indexCast c11_i32_122
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v259 : Index := Scalar.indexCast v92
  ![11, v259.toNat]
def k0_off192 (k0_t4 : Fin k0_t4_loop.trips) : Fin 2 → Nat :=
  let c12_i32_123 : BitVec 32 := 12#32
  let v261 : Index := Scalar.indexCast c12_i32_123
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v262 : Index := Scalar.indexCast v92
  ![12, v262.toNat]
def k0_off193 (k0_t4 : Fin k0_t4_loop.trips) : Fin 2 → Nat :=
  let c13_i32_124 : BitVec 32 := 13#32
  let v264 : Index := Scalar.indexCast c13_i32_124
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v265 : Index := Scalar.indexCast v92
  ![13, v265.toNat]
def k0_off194 (k0_t4 : Fin k0_t4_loop.trips) : Fin 2 → Nat :=
  let c14_i32_125 : BitVec 32 := 14#32
  let v267 : Index := Scalar.indexCast c14_i32_125
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v268 : Index := Scalar.indexCast v92
  ![14, v268.toNat]
def k0_off195 (k0_t4 : Fin k0_t4_loop.trips) : Fin 2 → Nat :=
  let c15_i32_126 : BitVec 32 := 15#32
  let v270 : Index := Scalar.indexCast c15_i32_126
  let c0_i32_102 : BitVec 32 := 0#32
  let c0_i32_40 : BitVec 32 := 0#32
  let c1_i32_42 : BitVec 32 := 1#32
  let arg11 : BitVec 32 := Scf.iv c0_i32_40 c1_i32_42 k0_t4
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v271 : Index := Scalar.indexCast v92
  ![15, v271.toNat]
@[reducible] def k0_t5_loop : Scf.Loop 32 :=
  let c0_i32_53 : BitVec 32 := 0#32
  let c64_i32_54 : BitVec 32 := 64#32
  let v52 : BitVec 32 := Scalar.addi c0_i32_53 c64_i32_54
  let c1_i32_55 : BitVec 32 := 1#32
  ⟨c0_i32_53, v52, c1_i32_55⟩
def k0_off196 (k0_t5 : Fin k0_t5_loop.trips) : Fin 2 → Nat :=
  let c0_i32_103 : BitVec 32 := 0#32
  let v93 : Index := Scalar.indexCast c0_i32_103
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v94 : Index := Scalar.indexCast v92
  ![0, v94.toNat]
def k0_off197 (k0_t5 : Fin k0_t5_loop.trips) : Fin 2 → Nat :=
  let c4_i32 : BitVec 32 := 4#32
  let v96 : Index := Scalar.indexCast c4_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v97 : Index := Scalar.indexCast v92
  ![4, v97.toNat]
def k0_off198 (k0_t5 : Fin k0_t5_loop.trips) : Fin 2 → Nat :=
  let c8_i32 : BitVec 32 := 8#32
  let v99 : Index := Scalar.indexCast c8_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v100 : Index := Scalar.indexCast v92
  ![8, v100.toNat]
def k0_off199 (k0_t5 : Fin k0_t5_loop.trips) : Fin 2 → Nat :=
  let c12_i32 : BitVec 32 := 12#32
  let v102 : Index := Scalar.indexCast c12_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v103 : Index := Scalar.indexCast v92
  ![12, v103.toNat]
def k0_off200 (k0_t5 : Fin k0_t5_loop.trips) : Fin 2 → Nat :=
  let c16_i32_104 : BitVec 32 := 16#32
  let v105 : Index := Scalar.indexCast c16_i32_104
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v106 : Index := Scalar.indexCast v92
  ![16, v106.toNat]
def k0_off201 (k0_t5 : Fin k0_t5_loop.trips) : Fin 2 → Nat :=
  let c20_i32 : BitVec 32 := 20#32
  let v108 : Index := Scalar.indexCast c20_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v109 : Index := Scalar.indexCast v92
  ![20, v109.toNat]
def k0_off202 (k0_t5 : Fin k0_t5_loop.trips) : Fin 2 → Nat :=
  let c24_i32 : BitVec 32 := 24#32
  let v111 : Index := Scalar.indexCast c24_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v112 : Index := Scalar.indexCast v92
  ![24, v112.toNat]
def k0_off203 (k0_t5 : Fin k0_t5_loop.trips) : Fin 2 → Nat :=
  let c28_i32 : BitVec 32 := 28#32
  let v114 : Index := Scalar.indexCast c28_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v115 : Index := Scalar.indexCast v92
  ![28, v115.toNat]
def k0_off204 (k0_t5 : Fin k0_t5_loop.trips) : Fin 2 → Nat :=
  let c3_i32 : BitVec 32 := 3#32
  let v126 : Index := Scalar.indexCast c3_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v127 : Index := Scalar.indexCast v92
  ![3, v127.toNat]
def k0_off205 (k0_t5 : Fin k0_t5_loop.trips) : Fin 2 → Nat :=
  let c7_i32 : BitVec 32 := 7#32
  let v129 : Index := Scalar.indexCast c7_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v130 : Index := Scalar.indexCast v92
  ![7, v130.toNat]
def k0_off206 (k0_t5 : Fin k0_t5_loop.trips) : Fin 2 → Nat :=
  let c11_i32 : BitVec 32 := 11#32
  let v132 : Index := Scalar.indexCast c11_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v133 : Index := Scalar.indexCast v92
  ![11, v133.toNat]
def k0_off207 (k0_t5 : Fin k0_t5_loop.trips) : Fin 2 → Nat :=
  let c15_i32 : BitVec 32 := 15#32
  let v135 : Index := Scalar.indexCast c15_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v136 : Index := Scalar.indexCast v92
  ![15, v136.toNat]
def k0_off208 (k0_t5 : Fin k0_t5_loop.trips) : Fin 2 → Nat :=
  let c19_i32 : BitVec 32 := 19#32
  let v138 : Index := Scalar.indexCast c19_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v139 : Index := Scalar.indexCast v92
  ![19, v139.toNat]
def k0_off209 (k0_t5 : Fin k0_t5_loop.trips) : Fin 2 → Nat :=
  let c23_i32 : BitVec 32 := 23#32
  let v141 : Index := Scalar.indexCast c23_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v142 : Index := Scalar.indexCast v92
  ![23, v142.toNat]
def k0_off210 (k0_t5 : Fin k0_t5_loop.trips) : Fin 2 → Nat :=
  let c27_i32 : BitVec 32 := 27#32
  let v144 : Index := Scalar.indexCast c27_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v145 : Index := Scalar.indexCast v92
  ![27, v145.toNat]
def k0_off211 (k0_t5 : Fin k0_t5_loop.trips) : Fin 2 → Nat :=
  let c31_i32 : BitVec 32 := 31#32
  let v147 : Index := Scalar.indexCast c31_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v148 : Index := Scalar.indexCast v92
  ![31, v148.toNat]
def k0_off212 (k0_t5 : Fin k0_t5_loop.trips) : Fin 2 → Nat :=
  let c2_i32_107 : BitVec 32 := 2#32
  let v159 : Index := Scalar.indexCast c2_i32_107
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v160 : Index := Scalar.indexCast v92
  ![2, v160.toNat]
def k0_off213 (k0_t5 : Fin k0_t5_loop.trips) : Fin 2 → Nat :=
  let c6_i32 : BitVec 32 := 6#32
  let v162 : Index := Scalar.indexCast c6_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v163 : Index := Scalar.indexCast v92
  ![6, v163.toNat]
def k0_off214 (k0_t5 : Fin k0_t5_loop.trips) : Fin 2 → Nat :=
  let c10_i32 : BitVec 32 := 10#32
  let v165 : Index := Scalar.indexCast c10_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v166 : Index := Scalar.indexCast v92
  ![10, v166.toNat]
def k0_off215 (k0_t5 : Fin k0_t5_loop.trips) : Fin 2 → Nat :=
  let c14_i32 : BitVec 32 := 14#32
  let v168 : Index := Scalar.indexCast c14_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v169 : Index := Scalar.indexCast v92
  ![14, v169.toNat]
def k0_off216 (k0_t5 : Fin k0_t5_loop.trips) : Fin 2 → Nat :=
  let c18_i32 : BitVec 32 := 18#32
  let v171 : Index := Scalar.indexCast c18_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v172 : Index := Scalar.indexCast v92
  ![18, v172.toNat]
def k0_off217 (k0_t5 : Fin k0_t5_loop.trips) : Fin 2 → Nat :=
  let c22_i32 : BitVec 32 := 22#32
  let v174 : Index := Scalar.indexCast c22_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v175 : Index := Scalar.indexCast v92
  ![22, v175.toNat]
def k0_off218 (k0_t5 : Fin k0_t5_loop.trips) : Fin 2 → Nat :=
  let c26_i32 : BitVec 32 := 26#32
  let v177 : Index := Scalar.indexCast c26_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v178 : Index := Scalar.indexCast v92
  ![26, v178.toNat]
def k0_off219 (k0_t5 : Fin k0_t5_loop.trips) : Fin 2 → Nat :=
  let c30_i32 : BitVec 32 := 30#32
  let v180 : Index := Scalar.indexCast c30_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v181 : Index := Scalar.indexCast v92
  ![30, v181.toNat]
def k0_off220 (k0_t5 : Fin k0_t5_loop.trips) : Fin 2 → Nat :=
  let c1_i32_109 : BitVec 32 := 1#32
  let v192 : Index := Scalar.indexCast c1_i32_109
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v193 : Index := Scalar.indexCast v92
  ![1, v193.toNat]
def k0_off221 (k0_t5 : Fin k0_t5_loop.trips) : Fin 2 → Nat :=
  let c5_i32 : BitVec 32 := 5#32
  let v195 : Index := Scalar.indexCast c5_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v196 : Index := Scalar.indexCast v92
  ![5, v196.toNat]
def k0_off222 (k0_t5 : Fin k0_t5_loop.trips) : Fin 2 → Nat :=
  let c9_i32 : BitVec 32 := 9#32
  let v198 : Index := Scalar.indexCast c9_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v199 : Index := Scalar.indexCast v92
  ![9, v199.toNat]
def k0_off223 (k0_t5 : Fin k0_t5_loop.trips) : Fin 2 → Nat :=
  let c13_i32 : BitVec 32 := 13#32
  let v201 : Index := Scalar.indexCast c13_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v202 : Index := Scalar.indexCast v92
  ![13, v202.toNat]
def k0_off224 (k0_t5 : Fin k0_t5_loop.trips) : Fin 2 → Nat :=
  let c17_i32 : BitVec 32 := 17#32
  let v204 : Index := Scalar.indexCast c17_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v205 : Index := Scalar.indexCast v92
  ![17, v205.toNat]
def k0_off225 (k0_t5 : Fin k0_t5_loop.trips) : Fin 2 → Nat :=
  let c21_i32 : BitVec 32 := 21#32
  let v207 : Index := Scalar.indexCast c21_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v208 : Index := Scalar.indexCast v92
  ![21, v208.toNat]
def k0_off226 (k0_t5 : Fin k0_t5_loop.trips) : Fin 2 → Nat :=
  let c25_i32 : BitVec 32 := 25#32
  let v210 : Index := Scalar.indexCast c25_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v211 : Index := Scalar.indexCast v92
  ![25, v211.toNat]
def k0_off227 (k0_t5 : Fin k0_t5_loop.trips) : Fin 2 → Nat :=
  let c29_i32 : BitVec 32 := 29#32
  let v213 : Index := Scalar.indexCast c29_i32
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v214 : Index := Scalar.indexCast v92
  ![29, v214.toNat]
def k0_off228 (k0_t5 : Fin k0_t5_loop.trips) : Fin 2 → Nat :=
  let c0_i32_111 : BitVec 32 := 0#32
  let v225 : Index := Scalar.indexCast c0_i32_111
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v226 : Index := Scalar.indexCast v92
  ![0, v226.toNat]
def k0_off229 (k0_t5 : Fin k0_t5_loop.trips) : Fin 2 → Nat :=
  let c1_i32_112 : BitVec 32 := 1#32
  let v228 : Index := Scalar.indexCast c1_i32_112
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v229 : Index := Scalar.indexCast v92
  ![1, v229.toNat]
def k0_off230 (k0_t5 : Fin k0_t5_loop.trips) : Fin 2 → Nat :=
  let c2_i32_113 : BitVec 32 := 2#32
  let v231 : Index := Scalar.indexCast c2_i32_113
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v232 : Index := Scalar.indexCast v92
  ![2, v232.toNat]
def k0_off231 (k0_t5 : Fin k0_t5_loop.trips) : Fin 2 → Nat :=
  let c3_i32_114 : BitVec 32 := 3#32
  let v234 : Index := Scalar.indexCast c3_i32_114
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v235 : Index := Scalar.indexCast v92
  ![3, v235.toNat]
def k0_off232 (k0_t5 : Fin k0_t5_loop.trips) : Fin 2 → Nat :=
  let c4_i32_115 : BitVec 32 := 4#32
  let v237 : Index := Scalar.indexCast c4_i32_115
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v238 : Index := Scalar.indexCast v92
  ![4, v238.toNat]
def k0_off233 (k0_t5 : Fin k0_t5_loop.trips) : Fin 2 → Nat :=
  let c5_i32_116 : BitVec 32 := 5#32
  let v240 : Index := Scalar.indexCast c5_i32_116
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v241 : Index := Scalar.indexCast v92
  ![5, v241.toNat]
def k0_off234 (k0_t5 : Fin k0_t5_loop.trips) : Fin 2 → Nat :=
  let c6_i32_117 : BitVec 32 := 6#32
  let v243 : Index := Scalar.indexCast c6_i32_117
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v244 : Index := Scalar.indexCast v92
  ![6, v244.toNat]
def k0_off235 (k0_t5 : Fin k0_t5_loop.trips) : Fin 2 → Nat :=
  let c7_i32_118 : BitVec 32 := 7#32
  let v246 : Index := Scalar.indexCast c7_i32_118
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v247 : Index := Scalar.indexCast v92
  ![7, v247.toNat]
def k0_off236 (k0_t5 : Fin k0_t5_loop.trips) : Fin 2 → Nat :=
  let c8_i32_119 : BitVec 32 := 8#32
  let v249 : Index := Scalar.indexCast c8_i32_119
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v250 : Index := Scalar.indexCast v92
  ![8, v250.toNat]
def k0_off237 (k0_t5 : Fin k0_t5_loop.trips) : Fin 2 → Nat :=
  let c9_i32_120 : BitVec 32 := 9#32
  let v252 : Index := Scalar.indexCast c9_i32_120
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v253 : Index := Scalar.indexCast v92
  ![9, v253.toNat]
def k0_off238 (k0_t5 : Fin k0_t5_loop.trips) : Fin 2 → Nat :=
  let c10_i32_121 : BitVec 32 := 10#32
  let v255 : Index := Scalar.indexCast c10_i32_121
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v256 : Index := Scalar.indexCast v92
  ![10, v256.toNat]
def k0_off239 (k0_t5 : Fin k0_t5_loop.trips) : Fin 2 → Nat :=
  let c11_i32_122 : BitVec 32 := 11#32
  let v258 : Index := Scalar.indexCast c11_i32_122
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v259 : Index := Scalar.indexCast v92
  ![11, v259.toNat]
def k0_off240 (k0_t5 : Fin k0_t5_loop.trips) : Fin 2 → Nat :=
  let c12_i32_123 : BitVec 32 := 12#32
  let v261 : Index := Scalar.indexCast c12_i32_123
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v262 : Index := Scalar.indexCast v92
  ![12, v262.toNat]
def k0_off241 (k0_t5 : Fin k0_t5_loop.trips) : Fin 2 → Nat :=
  let c13_i32_124 : BitVec 32 := 13#32
  let v264 : Index := Scalar.indexCast c13_i32_124
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v265 : Index := Scalar.indexCast v92
  ![13, v265.toNat]
def k0_off242 (k0_t5 : Fin k0_t5_loop.trips) : Fin 2 → Nat :=
  let c14_i32_125 : BitVec 32 := 14#32
  let v267 : Index := Scalar.indexCast c14_i32_125
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v268 : Index := Scalar.indexCast v92
  ![14, v268.toNat]
def k0_off243 (k0_t5 : Fin k0_t5_loop.trips) : Fin 2 → Nat :=
  let c15_i32_126 : BitVec 32 := 15#32
  let v270 : Index := Scalar.indexCast c15_i32_126
  let c0_i32_102 : BitVec 32 := 0#32
  let c0_i32_53 : BitVec 32 := 0#32
  let c1_i32_55 : BitVec 32 := 1#32
  let arg11 : BitVec 32 := Scf.iv c0_i32_53 c1_i32_55 k0_t5
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v271 : Index := Scalar.indexCast v92
  ![15, v271.toNat]
@[reducible] def k0_t6_loop : Scf.Loop 32 :=
  let c0_i32_66 : BitVec 32 := 0#32
  let c64_i32_67 : BitVec 32 := 64#32
  let v63 : BitVec 32 := Scalar.addi c0_i32_66 c64_i32_67
  let c1_i32_68 : BitVec 32 := 1#32
  ⟨c0_i32_66, v63, c1_i32_68⟩
def k0_off244 (k0_t6 : Fin k0_t6_loop.trips) : Fin 2 → Nat :=
  let c0_i32_103 : BitVec 32 := 0#32
  let v93 : Index := Scalar.indexCast c0_i32_103
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v94 : Index := Scalar.indexCast v92
  ![0, v94.toNat]
def k0_off245 (k0_t6 : Fin k0_t6_loop.trips) : Fin 2 → Nat :=
  let c4_i32 : BitVec 32 := 4#32
  let v96 : Index := Scalar.indexCast c4_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v97 : Index := Scalar.indexCast v92
  ![4, v97.toNat]
def k0_off246 (k0_t6 : Fin k0_t6_loop.trips) : Fin 2 → Nat :=
  let c8_i32 : BitVec 32 := 8#32
  let v99 : Index := Scalar.indexCast c8_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v100 : Index := Scalar.indexCast v92
  ![8, v100.toNat]
def k0_off247 (k0_t6 : Fin k0_t6_loop.trips) : Fin 2 → Nat :=
  let c12_i32 : BitVec 32 := 12#32
  let v102 : Index := Scalar.indexCast c12_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v103 : Index := Scalar.indexCast v92
  ![12, v103.toNat]
def k0_off248 (k0_t6 : Fin k0_t6_loop.trips) : Fin 2 → Nat :=
  let c16_i32_104 : BitVec 32 := 16#32
  let v105 : Index := Scalar.indexCast c16_i32_104
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v106 : Index := Scalar.indexCast v92
  ![16, v106.toNat]
def k0_off249 (k0_t6 : Fin k0_t6_loop.trips) : Fin 2 → Nat :=
  let c20_i32 : BitVec 32 := 20#32
  let v108 : Index := Scalar.indexCast c20_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v109 : Index := Scalar.indexCast v92
  ![20, v109.toNat]
def k0_off250 (k0_t6 : Fin k0_t6_loop.trips) : Fin 2 → Nat :=
  let c24_i32 : BitVec 32 := 24#32
  let v111 : Index := Scalar.indexCast c24_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v112 : Index := Scalar.indexCast v92
  ![24, v112.toNat]
def k0_off251 (k0_t6 : Fin k0_t6_loop.trips) : Fin 2 → Nat :=
  let c28_i32 : BitVec 32 := 28#32
  let v114 : Index := Scalar.indexCast c28_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v115 : Index := Scalar.indexCast v92
  ![28, v115.toNat]
def k0_off252 (k0_t6 : Fin k0_t6_loop.trips) : Fin 2 → Nat :=
  let c3_i32 : BitVec 32 := 3#32
  let v126 : Index := Scalar.indexCast c3_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v127 : Index := Scalar.indexCast v92
  ![3, v127.toNat]
def k0_off253 (k0_t6 : Fin k0_t6_loop.trips) : Fin 2 → Nat :=
  let c7_i32 : BitVec 32 := 7#32
  let v129 : Index := Scalar.indexCast c7_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v130 : Index := Scalar.indexCast v92
  ![7, v130.toNat]
def k0_off254 (k0_t6 : Fin k0_t6_loop.trips) : Fin 2 → Nat :=
  let c11_i32 : BitVec 32 := 11#32
  let v132 : Index := Scalar.indexCast c11_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v133 : Index := Scalar.indexCast v92
  ![11, v133.toNat]
def k0_off255 (k0_t6 : Fin k0_t6_loop.trips) : Fin 2 → Nat :=
  let c15_i32 : BitVec 32 := 15#32
  let v135 : Index := Scalar.indexCast c15_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v136 : Index := Scalar.indexCast v92
  ![15, v136.toNat]
def k0_off256 (k0_t6 : Fin k0_t6_loop.trips) : Fin 2 → Nat :=
  let c19_i32 : BitVec 32 := 19#32
  let v138 : Index := Scalar.indexCast c19_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v139 : Index := Scalar.indexCast v92
  ![19, v139.toNat]
def k0_off257 (k0_t6 : Fin k0_t6_loop.trips) : Fin 2 → Nat :=
  let c23_i32 : BitVec 32 := 23#32
  let v141 : Index := Scalar.indexCast c23_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v142 : Index := Scalar.indexCast v92
  ![23, v142.toNat]
def k0_off258 (k0_t6 : Fin k0_t6_loop.trips) : Fin 2 → Nat :=
  let c27_i32 : BitVec 32 := 27#32
  let v144 : Index := Scalar.indexCast c27_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v145 : Index := Scalar.indexCast v92
  ![27, v145.toNat]
def k0_off259 (k0_t6 : Fin k0_t6_loop.trips) : Fin 2 → Nat :=
  let c31_i32 : BitVec 32 := 31#32
  let v147 : Index := Scalar.indexCast c31_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v148 : Index := Scalar.indexCast v92
  ![31, v148.toNat]
def k0_off260 (k0_t6 : Fin k0_t6_loop.trips) : Fin 2 → Nat :=
  let c2_i32_107 : BitVec 32 := 2#32
  let v159 : Index := Scalar.indexCast c2_i32_107
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v160 : Index := Scalar.indexCast v92
  ![2, v160.toNat]
def k0_off261 (k0_t6 : Fin k0_t6_loop.trips) : Fin 2 → Nat :=
  let c6_i32 : BitVec 32 := 6#32
  let v162 : Index := Scalar.indexCast c6_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v163 : Index := Scalar.indexCast v92
  ![6, v163.toNat]
def k0_off262 (k0_t6 : Fin k0_t6_loop.trips) : Fin 2 → Nat :=
  let c10_i32 : BitVec 32 := 10#32
  let v165 : Index := Scalar.indexCast c10_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v166 : Index := Scalar.indexCast v92
  ![10, v166.toNat]
def k0_off263 (k0_t6 : Fin k0_t6_loop.trips) : Fin 2 → Nat :=
  let c14_i32 : BitVec 32 := 14#32
  let v168 : Index := Scalar.indexCast c14_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v169 : Index := Scalar.indexCast v92
  ![14, v169.toNat]
def k0_off264 (k0_t6 : Fin k0_t6_loop.trips) : Fin 2 → Nat :=
  let c18_i32 : BitVec 32 := 18#32
  let v171 : Index := Scalar.indexCast c18_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v172 : Index := Scalar.indexCast v92
  ![18, v172.toNat]
def k0_off265 (k0_t6 : Fin k0_t6_loop.trips) : Fin 2 → Nat :=
  let c22_i32 : BitVec 32 := 22#32
  let v174 : Index := Scalar.indexCast c22_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v175 : Index := Scalar.indexCast v92
  ![22, v175.toNat]
def k0_off266 (k0_t6 : Fin k0_t6_loop.trips) : Fin 2 → Nat :=
  let c26_i32 : BitVec 32 := 26#32
  let v177 : Index := Scalar.indexCast c26_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v178 : Index := Scalar.indexCast v92
  ![26, v178.toNat]
def k0_off267 (k0_t6 : Fin k0_t6_loop.trips) : Fin 2 → Nat :=
  let c30_i32 : BitVec 32 := 30#32
  let v180 : Index := Scalar.indexCast c30_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v181 : Index := Scalar.indexCast v92
  ![30, v181.toNat]
def k0_off268 (k0_t6 : Fin k0_t6_loop.trips) : Fin 2 → Nat :=
  let c1_i32_109 : BitVec 32 := 1#32
  let v192 : Index := Scalar.indexCast c1_i32_109
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v193 : Index := Scalar.indexCast v92
  ![1, v193.toNat]
def k0_off269 (k0_t6 : Fin k0_t6_loop.trips) : Fin 2 → Nat :=
  let c5_i32 : BitVec 32 := 5#32
  let v195 : Index := Scalar.indexCast c5_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v196 : Index := Scalar.indexCast v92
  ![5, v196.toNat]
def k0_off270 (k0_t6 : Fin k0_t6_loop.trips) : Fin 2 → Nat :=
  let c9_i32 : BitVec 32 := 9#32
  let v198 : Index := Scalar.indexCast c9_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v199 : Index := Scalar.indexCast v92
  ![9, v199.toNat]
def k0_off271 (k0_t6 : Fin k0_t6_loop.trips) : Fin 2 → Nat :=
  let c13_i32 : BitVec 32 := 13#32
  let v201 : Index := Scalar.indexCast c13_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v202 : Index := Scalar.indexCast v92
  ![13, v202.toNat]
def k0_off272 (k0_t6 : Fin k0_t6_loop.trips) : Fin 2 → Nat :=
  let c17_i32 : BitVec 32 := 17#32
  let v204 : Index := Scalar.indexCast c17_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v205 : Index := Scalar.indexCast v92
  ![17, v205.toNat]
def k0_off273 (k0_t6 : Fin k0_t6_loop.trips) : Fin 2 → Nat :=
  let c21_i32 : BitVec 32 := 21#32
  let v207 : Index := Scalar.indexCast c21_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v208 : Index := Scalar.indexCast v92
  ![21, v208.toNat]
def k0_off274 (k0_t6 : Fin k0_t6_loop.trips) : Fin 2 → Nat :=
  let c25_i32 : BitVec 32 := 25#32
  let v210 : Index := Scalar.indexCast c25_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v211 : Index := Scalar.indexCast v92
  ![25, v211.toNat]
def k0_off275 (k0_t6 : Fin k0_t6_loop.trips) : Fin 2 → Nat :=
  let c29_i32 : BitVec 32 := 29#32
  let v213 : Index := Scalar.indexCast c29_i32
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v214 : Index := Scalar.indexCast v92
  ![29, v214.toNat]
def k0_off276 (k0_t6 : Fin k0_t6_loop.trips) : Fin 2 → Nat :=
  let c0_i32_111 : BitVec 32 := 0#32
  let v225 : Index := Scalar.indexCast c0_i32_111
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v226 : Index := Scalar.indexCast v92
  ![0, v226.toNat]
def k0_off277 (k0_t6 : Fin k0_t6_loop.trips) : Fin 2 → Nat :=
  let c1_i32_112 : BitVec 32 := 1#32
  let v228 : Index := Scalar.indexCast c1_i32_112
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v229 : Index := Scalar.indexCast v92
  ![1, v229.toNat]
def k0_off278 (k0_t6 : Fin k0_t6_loop.trips) : Fin 2 → Nat :=
  let c2_i32_113 : BitVec 32 := 2#32
  let v231 : Index := Scalar.indexCast c2_i32_113
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v232 : Index := Scalar.indexCast v92
  ![2, v232.toNat]
def k0_off279 (k0_t6 : Fin k0_t6_loop.trips) : Fin 2 → Nat :=
  let c3_i32_114 : BitVec 32 := 3#32
  let v234 : Index := Scalar.indexCast c3_i32_114
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v235 : Index := Scalar.indexCast v92
  ![3, v235.toNat]
def k0_off280 (k0_t6 : Fin k0_t6_loop.trips) : Fin 2 → Nat :=
  let c4_i32_115 : BitVec 32 := 4#32
  let v237 : Index := Scalar.indexCast c4_i32_115
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v238 : Index := Scalar.indexCast v92
  ![4, v238.toNat]
def k0_off281 (k0_t6 : Fin k0_t6_loop.trips) : Fin 2 → Nat :=
  let c5_i32_116 : BitVec 32 := 5#32
  let v240 : Index := Scalar.indexCast c5_i32_116
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v241 : Index := Scalar.indexCast v92
  ![5, v241.toNat]
def k0_off282 (k0_t6 : Fin k0_t6_loop.trips) : Fin 2 → Nat :=
  let c6_i32_117 : BitVec 32 := 6#32
  let v243 : Index := Scalar.indexCast c6_i32_117
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v244 : Index := Scalar.indexCast v92
  ![6, v244.toNat]
def k0_off283 (k0_t6 : Fin k0_t6_loop.trips) : Fin 2 → Nat :=
  let c7_i32_118 : BitVec 32 := 7#32
  let v246 : Index := Scalar.indexCast c7_i32_118
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v247 : Index := Scalar.indexCast v92
  ![7, v247.toNat]
def k0_off284 (k0_t6 : Fin k0_t6_loop.trips) : Fin 2 → Nat :=
  let c8_i32_119 : BitVec 32 := 8#32
  let v249 : Index := Scalar.indexCast c8_i32_119
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v250 : Index := Scalar.indexCast v92
  ![8, v250.toNat]
def k0_off285 (k0_t6 : Fin k0_t6_loop.trips) : Fin 2 → Nat :=
  let c9_i32_120 : BitVec 32 := 9#32
  let v252 : Index := Scalar.indexCast c9_i32_120
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v253 : Index := Scalar.indexCast v92
  ![9, v253.toNat]
def k0_off286 (k0_t6 : Fin k0_t6_loop.trips) : Fin 2 → Nat :=
  let c10_i32_121 : BitVec 32 := 10#32
  let v255 : Index := Scalar.indexCast c10_i32_121
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v256 : Index := Scalar.indexCast v92
  ![10, v256.toNat]
def k0_off287 (k0_t6 : Fin k0_t6_loop.trips) : Fin 2 → Nat :=
  let c11_i32_122 : BitVec 32 := 11#32
  let v258 : Index := Scalar.indexCast c11_i32_122
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v259 : Index := Scalar.indexCast v92
  ![11, v259.toNat]
def k0_off288 (k0_t6 : Fin k0_t6_loop.trips) : Fin 2 → Nat :=
  let c12_i32_123 : BitVec 32 := 12#32
  let v261 : Index := Scalar.indexCast c12_i32_123
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v262 : Index := Scalar.indexCast v92
  ![12, v262.toNat]
def k0_off289 (k0_t6 : Fin k0_t6_loop.trips) : Fin 2 → Nat :=
  let c13_i32_124 : BitVec 32 := 13#32
  let v264 : Index := Scalar.indexCast c13_i32_124
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v265 : Index := Scalar.indexCast v92
  ![13, v265.toNat]
def k0_off290 (k0_t6 : Fin k0_t6_loop.trips) : Fin 2 → Nat :=
  let c14_i32_125 : BitVec 32 := 14#32
  let v267 : Index := Scalar.indexCast c14_i32_125
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v268 : Index := Scalar.indexCast v92
  ![14, v268.toNat]
def k0_off291 (k0_t6 : Fin k0_t6_loop.trips) : Fin 2 → Nat :=
  let c15_i32_126 : BitVec 32 := 15#32
  let v270 : Index := Scalar.indexCast c15_i32_126
  let c0_i32_102 : BitVec 32 := 0#32
  let c0_i32_66 : BitVec 32 := 0#32
  let c1_i32_68 : BitVec 32 := 1#32
  let arg11 : BitVec 32 := Scf.iv c0_i32_66 c1_i32_68 k0_t6
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v271 : Index := Scalar.indexCast v92
  ![15, v271.toNat]
@[reducible] def k0_t7_loop : Scf.Loop 32 :=
  let c0_i32_79 : BitVec 32 := 0#32
  let c64_i32_80 : BitVec 32 := 64#32
  let v74 : BitVec 32 := Scalar.addi c0_i32_79 c64_i32_80
  let c1_i32_81 : BitVec 32 := 1#32
  ⟨c0_i32_79, v74, c1_i32_81⟩
def k0_off292 (k0_t7 : Fin k0_t7_loop.trips) : Fin 2 → Nat :=
  let c0_i32_103 : BitVec 32 := 0#32
  let v93 : Index := Scalar.indexCast c0_i32_103
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v94 : Index := Scalar.indexCast v92
  ![0, v94.toNat]
def k0_off293 (k0_t7 : Fin k0_t7_loop.trips) : Fin 2 → Nat :=
  let c4_i32 : BitVec 32 := 4#32
  let v96 : Index := Scalar.indexCast c4_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v97 : Index := Scalar.indexCast v92
  ![4, v97.toNat]
def k0_off294 (k0_t7 : Fin k0_t7_loop.trips) : Fin 2 → Nat :=
  let c8_i32 : BitVec 32 := 8#32
  let v99 : Index := Scalar.indexCast c8_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v100 : Index := Scalar.indexCast v92
  ![8, v100.toNat]
def k0_off295 (k0_t7 : Fin k0_t7_loop.trips) : Fin 2 → Nat :=
  let c12_i32 : BitVec 32 := 12#32
  let v102 : Index := Scalar.indexCast c12_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v103 : Index := Scalar.indexCast v92
  ![12, v103.toNat]
def k0_off296 (k0_t7 : Fin k0_t7_loop.trips) : Fin 2 → Nat :=
  let c16_i32_104 : BitVec 32 := 16#32
  let v105 : Index := Scalar.indexCast c16_i32_104
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v106 : Index := Scalar.indexCast v92
  ![16, v106.toNat]
def k0_off297 (k0_t7 : Fin k0_t7_loop.trips) : Fin 2 → Nat :=
  let c20_i32 : BitVec 32 := 20#32
  let v108 : Index := Scalar.indexCast c20_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v109 : Index := Scalar.indexCast v92
  ![20, v109.toNat]
def k0_off298 (k0_t7 : Fin k0_t7_loop.trips) : Fin 2 → Nat :=
  let c24_i32 : BitVec 32 := 24#32
  let v111 : Index := Scalar.indexCast c24_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v112 : Index := Scalar.indexCast v92
  ![24, v112.toNat]
def k0_off299 (k0_t7 : Fin k0_t7_loop.trips) : Fin 2 → Nat :=
  let c28_i32 : BitVec 32 := 28#32
  let v114 : Index := Scalar.indexCast c28_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v115 : Index := Scalar.indexCast v92
  ![28, v115.toNat]
def k0_off300 (k0_t7 : Fin k0_t7_loop.trips) : Fin 2 → Nat :=
  let c3_i32 : BitVec 32 := 3#32
  let v126 : Index := Scalar.indexCast c3_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v127 : Index := Scalar.indexCast v92
  ![3, v127.toNat]
def k0_off301 (k0_t7 : Fin k0_t7_loop.trips) : Fin 2 → Nat :=
  let c7_i32 : BitVec 32 := 7#32
  let v129 : Index := Scalar.indexCast c7_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v130 : Index := Scalar.indexCast v92
  ![7, v130.toNat]
def k0_off302 (k0_t7 : Fin k0_t7_loop.trips) : Fin 2 → Nat :=
  let c11_i32 : BitVec 32 := 11#32
  let v132 : Index := Scalar.indexCast c11_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v133 : Index := Scalar.indexCast v92
  ![11, v133.toNat]
def k0_off303 (k0_t7 : Fin k0_t7_loop.trips) : Fin 2 → Nat :=
  let c15_i32 : BitVec 32 := 15#32
  let v135 : Index := Scalar.indexCast c15_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v136 : Index := Scalar.indexCast v92
  ![15, v136.toNat]
def k0_off304 (k0_t7 : Fin k0_t7_loop.trips) : Fin 2 → Nat :=
  let c19_i32 : BitVec 32 := 19#32
  let v138 : Index := Scalar.indexCast c19_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v139 : Index := Scalar.indexCast v92
  ![19, v139.toNat]
def k0_off305 (k0_t7 : Fin k0_t7_loop.trips) : Fin 2 → Nat :=
  let c23_i32 : BitVec 32 := 23#32
  let v141 : Index := Scalar.indexCast c23_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v142 : Index := Scalar.indexCast v92
  ![23, v142.toNat]
def k0_off306 (k0_t7 : Fin k0_t7_loop.trips) : Fin 2 → Nat :=
  let c27_i32 : BitVec 32 := 27#32
  let v144 : Index := Scalar.indexCast c27_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v145 : Index := Scalar.indexCast v92
  ![27, v145.toNat]
def k0_off307 (k0_t7 : Fin k0_t7_loop.trips) : Fin 2 → Nat :=
  let c31_i32 : BitVec 32 := 31#32
  let v147 : Index := Scalar.indexCast c31_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v148 : Index := Scalar.indexCast v92
  ![31, v148.toNat]
def k0_off308 (k0_t7 : Fin k0_t7_loop.trips) : Fin 2 → Nat :=
  let c2_i32_107 : BitVec 32 := 2#32
  let v159 : Index := Scalar.indexCast c2_i32_107
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v160 : Index := Scalar.indexCast v92
  ![2, v160.toNat]
def k0_off309 (k0_t7 : Fin k0_t7_loop.trips) : Fin 2 → Nat :=
  let c6_i32 : BitVec 32 := 6#32
  let v162 : Index := Scalar.indexCast c6_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v163 : Index := Scalar.indexCast v92
  ![6, v163.toNat]
def k0_off310 (k0_t7 : Fin k0_t7_loop.trips) : Fin 2 → Nat :=
  let c10_i32 : BitVec 32 := 10#32
  let v165 : Index := Scalar.indexCast c10_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v166 : Index := Scalar.indexCast v92
  ![10, v166.toNat]
def k0_off311 (k0_t7 : Fin k0_t7_loop.trips) : Fin 2 → Nat :=
  let c14_i32 : BitVec 32 := 14#32
  let v168 : Index := Scalar.indexCast c14_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v169 : Index := Scalar.indexCast v92
  ![14, v169.toNat]
def k0_off312 (k0_t7 : Fin k0_t7_loop.trips) : Fin 2 → Nat :=
  let c18_i32 : BitVec 32 := 18#32
  let v171 : Index := Scalar.indexCast c18_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v172 : Index := Scalar.indexCast v92
  ![18, v172.toNat]
def k0_off313 (k0_t7 : Fin k0_t7_loop.trips) : Fin 2 → Nat :=
  let c22_i32 : BitVec 32 := 22#32
  let v174 : Index := Scalar.indexCast c22_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v175 : Index := Scalar.indexCast v92
  ![22, v175.toNat]
def k0_off314 (k0_t7 : Fin k0_t7_loop.trips) : Fin 2 → Nat :=
  let c26_i32 : BitVec 32 := 26#32
  let v177 : Index := Scalar.indexCast c26_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v178 : Index := Scalar.indexCast v92
  ![26, v178.toNat]
def k0_off315 (k0_t7 : Fin k0_t7_loop.trips) : Fin 2 → Nat :=
  let c30_i32 : BitVec 32 := 30#32
  let v180 : Index := Scalar.indexCast c30_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v181 : Index := Scalar.indexCast v92
  ![30, v181.toNat]
def k0_off316 (k0_t7 : Fin k0_t7_loop.trips) : Fin 2 → Nat :=
  let c1_i32_109 : BitVec 32 := 1#32
  let v192 : Index := Scalar.indexCast c1_i32_109
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v193 : Index := Scalar.indexCast v92
  ![1, v193.toNat]
def k0_off317 (k0_t7 : Fin k0_t7_loop.trips) : Fin 2 → Nat :=
  let c5_i32 : BitVec 32 := 5#32
  let v195 : Index := Scalar.indexCast c5_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v196 : Index := Scalar.indexCast v92
  ![5, v196.toNat]
def k0_off318 (k0_t7 : Fin k0_t7_loop.trips) : Fin 2 → Nat :=
  let c9_i32 : BitVec 32 := 9#32
  let v198 : Index := Scalar.indexCast c9_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v199 : Index := Scalar.indexCast v92
  ![9, v199.toNat]
def k0_off319 (k0_t7 : Fin k0_t7_loop.trips) : Fin 2 → Nat :=
  let c13_i32 : BitVec 32 := 13#32
  let v201 : Index := Scalar.indexCast c13_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v202 : Index := Scalar.indexCast v92
  ![13, v202.toNat]
def k0_off320 (k0_t7 : Fin k0_t7_loop.trips) : Fin 2 → Nat :=
  let c17_i32 : BitVec 32 := 17#32
  let v204 : Index := Scalar.indexCast c17_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v205 : Index := Scalar.indexCast v92
  ![17, v205.toNat]
def k0_off321 (k0_t7 : Fin k0_t7_loop.trips) : Fin 2 → Nat :=
  let c21_i32 : BitVec 32 := 21#32
  let v207 : Index := Scalar.indexCast c21_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v208 : Index := Scalar.indexCast v92
  ![21, v208.toNat]
def k0_off322 (k0_t7 : Fin k0_t7_loop.trips) : Fin 2 → Nat :=
  let c25_i32 : BitVec 32 := 25#32
  let v210 : Index := Scalar.indexCast c25_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v211 : Index := Scalar.indexCast v92
  ![25, v211.toNat]
def k0_off323 (k0_t7 : Fin k0_t7_loop.trips) : Fin 2 → Nat :=
  let c29_i32 : BitVec 32 := 29#32
  let v213 : Index := Scalar.indexCast c29_i32
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v214 : Index := Scalar.indexCast v92
  ![29, v214.toNat]
def k0_off324 (k0_t7 : Fin k0_t7_loop.trips) : Fin 2 → Nat :=
  let c0_i32_111 : BitVec 32 := 0#32
  let v225 : Index := Scalar.indexCast c0_i32_111
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v226 : Index := Scalar.indexCast v92
  ![0, v226.toNat]
def k0_off325 (k0_t7 : Fin k0_t7_loop.trips) : Fin 2 → Nat :=
  let c1_i32_112 : BitVec 32 := 1#32
  let v228 : Index := Scalar.indexCast c1_i32_112
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v229 : Index := Scalar.indexCast v92
  ![1, v229.toNat]
def k0_off326 (k0_t7 : Fin k0_t7_loop.trips) : Fin 2 → Nat :=
  let c2_i32_113 : BitVec 32 := 2#32
  let v231 : Index := Scalar.indexCast c2_i32_113
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v232 : Index := Scalar.indexCast v92
  ![2, v232.toNat]
def k0_off327 (k0_t7 : Fin k0_t7_loop.trips) : Fin 2 → Nat :=
  let c3_i32_114 : BitVec 32 := 3#32
  let v234 : Index := Scalar.indexCast c3_i32_114
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v235 : Index := Scalar.indexCast v92
  ![3, v235.toNat]
def k0_off328 (k0_t7 : Fin k0_t7_loop.trips) : Fin 2 → Nat :=
  let c4_i32_115 : BitVec 32 := 4#32
  let v237 : Index := Scalar.indexCast c4_i32_115
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v238 : Index := Scalar.indexCast v92
  ![4, v238.toNat]
def k0_off329 (k0_t7 : Fin k0_t7_loop.trips) : Fin 2 → Nat :=
  let c5_i32_116 : BitVec 32 := 5#32
  let v240 : Index := Scalar.indexCast c5_i32_116
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v241 : Index := Scalar.indexCast v92
  ![5, v241.toNat]
def k0_off330 (k0_t7 : Fin k0_t7_loop.trips) : Fin 2 → Nat :=
  let c6_i32_117 : BitVec 32 := 6#32
  let v243 : Index := Scalar.indexCast c6_i32_117
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v244 : Index := Scalar.indexCast v92
  ![6, v244.toNat]
def k0_off331 (k0_t7 : Fin k0_t7_loop.trips) : Fin 2 → Nat :=
  let c7_i32_118 : BitVec 32 := 7#32
  let v246 : Index := Scalar.indexCast c7_i32_118
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v247 : Index := Scalar.indexCast v92
  ![7, v247.toNat]
def k0_off332 (k0_t7 : Fin k0_t7_loop.trips) : Fin 2 → Nat :=
  let c8_i32_119 : BitVec 32 := 8#32
  let v249 : Index := Scalar.indexCast c8_i32_119
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v250 : Index := Scalar.indexCast v92
  ![8, v250.toNat]
def k0_off333 (k0_t7 : Fin k0_t7_loop.trips) : Fin 2 → Nat :=
  let c9_i32_120 : BitVec 32 := 9#32
  let v252 : Index := Scalar.indexCast c9_i32_120
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v253 : Index := Scalar.indexCast v92
  ![9, v253.toNat]
def k0_off334 (k0_t7 : Fin k0_t7_loop.trips) : Fin 2 → Nat :=
  let c10_i32_121 : BitVec 32 := 10#32
  let v255 : Index := Scalar.indexCast c10_i32_121
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v256 : Index := Scalar.indexCast v92
  ![10, v256.toNat]
def k0_off335 (k0_t7 : Fin k0_t7_loop.trips) : Fin 2 → Nat :=
  let c11_i32_122 : BitVec 32 := 11#32
  let v258 : Index := Scalar.indexCast c11_i32_122
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v259 : Index := Scalar.indexCast v92
  ![11, v259.toNat]
def k0_off336 (k0_t7 : Fin k0_t7_loop.trips) : Fin 2 → Nat :=
  let c12_i32_123 : BitVec 32 := 12#32
  let v261 : Index := Scalar.indexCast c12_i32_123
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v262 : Index := Scalar.indexCast v92
  ![12, v262.toNat]
def k0_off337 (k0_t7 : Fin k0_t7_loop.trips) : Fin 2 → Nat :=
  let c13_i32_124 : BitVec 32 := 13#32
  let v264 : Index := Scalar.indexCast c13_i32_124
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v265 : Index := Scalar.indexCast v92
  ![13, v265.toNat]
def k0_off338 (k0_t7 : Fin k0_t7_loop.trips) : Fin 2 → Nat :=
  let c14_i32_125 : BitVec 32 := 14#32
  let v267 : Index := Scalar.indexCast c14_i32_125
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v268 : Index := Scalar.indexCast v92
  ![14, v268.toNat]
def k0_off339 (k0_t7 : Fin k0_t7_loop.trips) : Fin 2 → Nat :=
  let c15_i32_126 : BitVec 32 := 15#32
  let v270 : Index := Scalar.indexCast c15_i32_126
  let c0_i32_102 : BitVec 32 := 0#32
  let c0_i32_79 : BitVec 32 := 0#32
  let c1_i32_81 : BitVec 32 := 1#32
  let arg11 : BitVec 32 := Scf.iv c0_i32_79 c1_i32_81 k0_t7
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v271 : Index := Scalar.indexCast v92
  ![15, v271.toNat]
@[reducible] def k0_t8_loop : Scf.Loop 32 :=
  let c0_i32_90 : BitVec 32 := 0#32
  let c64_i32_91 : BitVec 32 := 64#32
  let v82 : BitVec 32 := Scalar.addi c0_i32_90 c64_i32_91
  let c1_i32_92 : BitVec 32 := 1#32
  ⟨c0_i32_90, v82, c1_i32_92⟩
def k0_off340 (k0_t8 : Fin k0_t8_loop.trips) : Fin 2 → Nat :=
  let c0_i32_103 : BitVec 32 := 0#32
  let v93 : Index := Scalar.indexCast c0_i32_103
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v94 : Index := Scalar.indexCast v92
  ![0, v94.toNat]
def k0_off341 (k0_t8 : Fin k0_t8_loop.trips) : Fin 2 → Nat :=
  let c4_i32 : BitVec 32 := 4#32
  let v96 : Index := Scalar.indexCast c4_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v97 : Index := Scalar.indexCast v92
  ![4, v97.toNat]
def k0_off342 (k0_t8 : Fin k0_t8_loop.trips) : Fin 2 → Nat :=
  let c8_i32 : BitVec 32 := 8#32
  let v99 : Index := Scalar.indexCast c8_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v100 : Index := Scalar.indexCast v92
  ![8, v100.toNat]
def k0_off343 (k0_t8 : Fin k0_t8_loop.trips) : Fin 2 → Nat :=
  let c12_i32 : BitVec 32 := 12#32
  let v102 : Index := Scalar.indexCast c12_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v103 : Index := Scalar.indexCast v92
  ![12, v103.toNat]
def k0_off344 (k0_t8 : Fin k0_t8_loop.trips) : Fin 2 → Nat :=
  let c16_i32_104 : BitVec 32 := 16#32
  let v105 : Index := Scalar.indexCast c16_i32_104
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v106 : Index := Scalar.indexCast v92
  ![16, v106.toNat]
def k0_off345 (k0_t8 : Fin k0_t8_loop.trips) : Fin 2 → Nat :=
  let c20_i32 : BitVec 32 := 20#32
  let v108 : Index := Scalar.indexCast c20_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v109 : Index := Scalar.indexCast v92
  ![20, v109.toNat]
def k0_off346 (k0_t8 : Fin k0_t8_loop.trips) : Fin 2 → Nat :=
  let c24_i32 : BitVec 32 := 24#32
  let v111 : Index := Scalar.indexCast c24_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v112 : Index := Scalar.indexCast v92
  ![24, v112.toNat]
def k0_off347 (k0_t8 : Fin k0_t8_loop.trips) : Fin 2 → Nat :=
  let c28_i32 : BitVec 32 := 28#32
  let v114 : Index := Scalar.indexCast c28_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v115 : Index := Scalar.indexCast v92
  ![28, v115.toNat]
def k0_off348 (k0_t8 : Fin k0_t8_loop.trips) : Fin 2 → Nat :=
  let c3_i32 : BitVec 32 := 3#32
  let v126 : Index := Scalar.indexCast c3_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v127 : Index := Scalar.indexCast v92
  ![3, v127.toNat]
def k0_off349 (k0_t8 : Fin k0_t8_loop.trips) : Fin 2 → Nat :=
  let c7_i32 : BitVec 32 := 7#32
  let v129 : Index := Scalar.indexCast c7_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v130 : Index := Scalar.indexCast v92
  ![7, v130.toNat]
def k0_off350 (k0_t8 : Fin k0_t8_loop.trips) : Fin 2 → Nat :=
  let c11_i32 : BitVec 32 := 11#32
  let v132 : Index := Scalar.indexCast c11_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v133 : Index := Scalar.indexCast v92
  ![11, v133.toNat]
def k0_off351 (k0_t8 : Fin k0_t8_loop.trips) : Fin 2 → Nat :=
  let c15_i32 : BitVec 32 := 15#32
  let v135 : Index := Scalar.indexCast c15_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v136 : Index := Scalar.indexCast v92
  ![15, v136.toNat]
def k0_off352 (k0_t8 : Fin k0_t8_loop.trips) : Fin 2 → Nat :=
  let c19_i32 : BitVec 32 := 19#32
  let v138 : Index := Scalar.indexCast c19_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v139 : Index := Scalar.indexCast v92
  ![19, v139.toNat]
def k0_off353 (k0_t8 : Fin k0_t8_loop.trips) : Fin 2 → Nat :=
  let c23_i32 : BitVec 32 := 23#32
  let v141 : Index := Scalar.indexCast c23_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v142 : Index := Scalar.indexCast v92
  ![23, v142.toNat]
def k0_off354 (k0_t8 : Fin k0_t8_loop.trips) : Fin 2 → Nat :=
  let c27_i32 : BitVec 32 := 27#32
  let v144 : Index := Scalar.indexCast c27_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v145 : Index := Scalar.indexCast v92
  ![27, v145.toNat]
def k0_off355 (k0_t8 : Fin k0_t8_loop.trips) : Fin 2 → Nat :=
  let c31_i32 : BitVec 32 := 31#32
  let v147 : Index := Scalar.indexCast c31_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v148 : Index := Scalar.indexCast v92
  ![31, v148.toNat]
def k0_off356 (k0_t8 : Fin k0_t8_loop.trips) : Fin 2 → Nat :=
  let c2_i32_107 : BitVec 32 := 2#32
  let v159 : Index := Scalar.indexCast c2_i32_107
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v160 : Index := Scalar.indexCast v92
  ![2, v160.toNat]
def k0_off357 (k0_t8 : Fin k0_t8_loop.trips) : Fin 2 → Nat :=
  let c6_i32 : BitVec 32 := 6#32
  let v162 : Index := Scalar.indexCast c6_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v163 : Index := Scalar.indexCast v92
  ![6, v163.toNat]
def k0_off358 (k0_t8 : Fin k0_t8_loop.trips) : Fin 2 → Nat :=
  let c10_i32 : BitVec 32 := 10#32
  let v165 : Index := Scalar.indexCast c10_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v166 : Index := Scalar.indexCast v92
  ![10, v166.toNat]
def k0_off359 (k0_t8 : Fin k0_t8_loop.trips) : Fin 2 → Nat :=
  let c14_i32 : BitVec 32 := 14#32
  let v168 : Index := Scalar.indexCast c14_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v169 : Index := Scalar.indexCast v92
  ![14, v169.toNat]
def k0_off360 (k0_t8 : Fin k0_t8_loop.trips) : Fin 2 → Nat :=
  let c18_i32 : BitVec 32 := 18#32
  let v171 : Index := Scalar.indexCast c18_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v172 : Index := Scalar.indexCast v92
  ![18, v172.toNat]
def k0_off361 (k0_t8 : Fin k0_t8_loop.trips) : Fin 2 → Nat :=
  let c22_i32 : BitVec 32 := 22#32
  let v174 : Index := Scalar.indexCast c22_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v175 : Index := Scalar.indexCast v92
  ![22, v175.toNat]
def k0_off362 (k0_t8 : Fin k0_t8_loop.trips) : Fin 2 → Nat :=
  let c26_i32 : BitVec 32 := 26#32
  let v177 : Index := Scalar.indexCast c26_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v178 : Index := Scalar.indexCast v92
  ![26, v178.toNat]
def k0_off363 (k0_t8 : Fin k0_t8_loop.trips) : Fin 2 → Nat :=
  let c30_i32 : BitVec 32 := 30#32
  let v180 : Index := Scalar.indexCast c30_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v181 : Index := Scalar.indexCast v92
  ![30, v181.toNat]
def k0_off364 (k0_t8 : Fin k0_t8_loop.trips) : Fin 2 → Nat :=
  let c1_i32_109 : BitVec 32 := 1#32
  let v192 : Index := Scalar.indexCast c1_i32_109
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v193 : Index := Scalar.indexCast v92
  ![1, v193.toNat]
def k0_off365 (k0_t8 : Fin k0_t8_loop.trips) : Fin 2 → Nat :=
  let c5_i32 : BitVec 32 := 5#32
  let v195 : Index := Scalar.indexCast c5_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v196 : Index := Scalar.indexCast v92
  ![5, v196.toNat]
def k0_off366 (k0_t8 : Fin k0_t8_loop.trips) : Fin 2 → Nat :=
  let c9_i32 : BitVec 32 := 9#32
  let v198 : Index := Scalar.indexCast c9_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v199 : Index := Scalar.indexCast v92
  ![9, v199.toNat]
def k0_off367 (k0_t8 : Fin k0_t8_loop.trips) : Fin 2 → Nat :=
  let c13_i32 : BitVec 32 := 13#32
  let v201 : Index := Scalar.indexCast c13_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v202 : Index := Scalar.indexCast v92
  ![13, v202.toNat]
def k0_off368 (k0_t8 : Fin k0_t8_loop.trips) : Fin 2 → Nat :=
  let c17_i32 : BitVec 32 := 17#32
  let v204 : Index := Scalar.indexCast c17_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v205 : Index := Scalar.indexCast v92
  ![17, v205.toNat]
def k0_off369 (k0_t8 : Fin k0_t8_loop.trips) : Fin 2 → Nat :=
  let c21_i32 : BitVec 32 := 21#32
  let v207 : Index := Scalar.indexCast c21_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v208 : Index := Scalar.indexCast v92
  ![21, v208.toNat]
def k0_off370 (k0_t8 : Fin k0_t8_loop.trips) : Fin 2 → Nat :=
  let c25_i32 : BitVec 32 := 25#32
  let v210 : Index := Scalar.indexCast c25_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v211 : Index := Scalar.indexCast v92
  ![25, v211.toNat]
def k0_off371 (k0_t8 : Fin k0_t8_loop.trips) : Fin 2 → Nat :=
  let c29_i32 : BitVec 32 := 29#32
  let v213 : Index := Scalar.indexCast c29_i32
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v214 : Index := Scalar.indexCast v92
  ![29, v214.toNat]
def k0_off372 (k0_t8 : Fin k0_t8_loop.trips) : Fin 2 → Nat :=
  let c0_i32_111 : BitVec 32 := 0#32
  let v225 : Index := Scalar.indexCast c0_i32_111
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v226 : Index := Scalar.indexCast v92
  ![0, v226.toNat]
def k0_off373 (k0_t8 : Fin k0_t8_loop.trips) : Fin 2 → Nat :=
  let c1_i32_112 : BitVec 32 := 1#32
  let v228 : Index := Scalar.indexCast c1_i32_112
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v229 : Index := Scalar.indexCast v92
  ![1, v229.toNat]
def k0_off374 (k0_t8 : Fin k0_t8_loop.trips) : Fin 2 → Nat :=
  let c2_i32_113 : BitVec 32 := 2#32
  let v231 : Index := Scalar.indexCast c2_i32_113
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v232 : Index := Scalar.indexCast v92
  ![2, v232.toNat]
def k0_off375 (k0_t8 : Fin k0_t8_loop.trips) : Fin 2 → Nat :=
  let c3_i32_114 : BitVec 32 := 3#32
  let v234 : Index := Scalar.indexCast c3_i32_114
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v235 : Index := Scalar.indexCast v92
  ![3, v235.toNat]
def k0_off376 (k0_t8 : Fin k0_t8_loop.trips) : Fin 2 → Nat :=
  let c4_i32_115 : BitVec 32 := 4#32
  let v237 : Index := Scalar.indexCast c4_i32_115
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v238 : Index := Scalar.indexCast v92
  ![4, v238.toNat]
def k0_off377 (k0_t8 : Fin k0_t8_loop.trips) : Fin 2 → Nat :=
  let c5_i32_116 : BitVec 32 := 5#32
  let v240 : Index := Scalar.indexCast c5_i32_116
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v241 : Index := Scalar.indexCast v92
  ![5, v241.toNat]
def k0_off378 (k0_t8 : Fin k0_t8_loop.trips) : Fin 2 → Nat :=
  let c6_i32_117 : BitVec 32 := 6#32
  let v243 : Index := Scalar.indexCast c6_i32_117
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v244 : Index := Scalar.indexCast v92
  ![6, v244.toNat]
def k0_off379 (k0_t8 : Fin k0_t8_loop.trips) : Fin 2 → Nat :=
  let c7_i32_118 : BitVec 32 := 7#32
  let v246 : Index := Scalar.indexCast c7_i32_118
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v247 : Index := Scalar.indexCast v92
  ![7, v247.toNat]
def k0_off380 (k0_t8 : Fin k0_t8_loop.trips) : Fin 2 → Nat :=
  let c8_i32_119 : BitVec 32 := 8#32
  let v249 : Index := Scalar.indexCast c8_i32_119
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v250 : Index := Scalar.indexCast v92
  ![8, v250.toNat]
def k0_off381 (k0_t8 : Fin k0_t8_loop.trips) : Fin 2 → Nat :=
  let c9_i32_120 : BitVec 32 := 9#32
  let v252 : Index := Scalar.indexCast c9_i32_120
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v253 : Index := Scalar.indexCast v92
  ![9, v253.toNat]
def k0_off382 (k0_t8 : Fin k0_t8_loop.trips) : Fin 2 → Nat :=
  let c10_i32_121 : BitVec 32 := 10#32
  let v255 : Index := Scalar.indexCast c10_i32_121
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v256 : Index := Scalar.indexCast v92
  ![10, v256.toNat]
def k0_off383 (k0_t8 : Fin k0_t8_loop.trips) : Fin 2 → Nat :=
  let c11_i32_122 : BitVec 32 := 11#32
  let v258 : Index := Scalar.indexCast c11_i32_122
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v259 : Index := Scalar.indexCast v92
  ![11, v259.toNat]
def k0_off384 (k0_t8 : Fin k0_t8_loop.trips) : Fin 2 → Nat :=
  let c12_i32_123 : BitVec 32 := 12#32
  let v261 : Index := Scalar.indexCast c12_i32_123
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v262 : Index := Scalar.indexCast v92
  ![12, v262.toNat]
def k0_off385 (k0_t8 : Fin k0_t8_loop.trips) : Fin 2 → Nat :=
  let c13_i32_124 : BitVec 32 := 13#32
  let v264 : Index := Scalar.indexCast c13_i32_124
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v265 : Index := Scalar.indexCast v92
  ![13, v265.toNat]
def k0_off386 (k0_t8 : Fin k0_t8_loop.trips) : Fin 2 → Nat :=
  let c14_i32_125 : BitVec 32 := 14#32
  let v267 : Index := Scalar.indexCast c14_i32_125
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v268 : Index := Scalar.indexCast v92
  ![14, v268.toNat]
def k0_off387 (k0_t8 : Fin k0_t8_loop.trips) : Fin 2 → Nat :=
  let c15_i32_126 : BitVec 32 := 15#32
  let v270 : Index := Scalar.indexCast c15_i32_126
  let c0_i32_102 : BitVec 32 := 0#32
  let c0_i32_90 : BitVec 32 := 0#32
  let c1_i32_92 : BitVec 32 := 1#32
  let arg11 : BitVec 32 := Scf.iv c0_i32_90 c1_i32_92 k0_t8
  let c1_i32_101 : BitVec 32 := 1#32
  let v90 : BitVec 32 := Scalar.muli arg11 c1_i32_101
  let v91 : BitVec 32 := Scalar.addi c0_i32_102 v90
  let c16_i32 : BitVec 32 := 16#32
  let v92 : BitVec 32 := Scalar.muli v91 c16_i32
  let v271 : Index := Scalar.indexCast v92
  ![15, v271.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S262144x32 : Shape := ⟨2, ![262144, 32]⟩
abbrev S16x8 : Shape := ⟨2, ![16, 8]⟩
abbrev S_ : Shape := ⟨0, ![]⟩
abbrev S16x8x1 : Shape := ⟨3, ![16, 8, 1]⟩
abbrev S1 : Shape := ⟨1, ![1]⟩
abbrev S1x1x1 : Shape := ⟨3, ![1, 1, 1]⟩
abbrev S262144x16x8 : Shape := ⟨3, ![262144, 16, 8]⟩
abbrev S1x16x8 : Shape := ⟨3, ![1, 16, 8]⟩
abbrev S262144x16 : Shape := ⟨2, ![262144, 16]⟩

abbrev nBuf : Space → Nat
  | .hbm => 53
  | .vmem => 0
  | .smem => 0
  | _ => 0

abbrev bufTy : (tb : Table) → Fin (tcTables nBuf tb) → BufTy
  | .hbm, ⟨0, _⟩ => ⟨S262144x32, .i32⟩
  | .hbm, ⟨1, _⟩ => ⟨S16x8, .i32⟩
  | .hbm, ⟨2, _⟩ => ⟨S16x8, .i32⟩
  | .hbm, ⟨3, _⟩ => ⟨S_, .i32⟩
  | .hbm, ⟨4, _⟩ => ⟨S16x8, .i32⟩
  | .hbm, ⟨5, _⟩ => ⟨S16x8, .i1⟩
  | .hbm, ⟨6, _⟩ => ⟨S_, .i32⟩
  | .hbm, ⟨7, _⟩ => ⟨S16x8, .i32⟩
  | .hbm, ⟨8, _⟩ => ⟨S16x8, .i32⟩
  | .hbm, ⟨9, _⟩ => ⟨S16x8, .i32⟩
  | .hbm, ⟨10, _⟩ => ⟨S16x8x1, .i32⟩
  | .hbm, ⟨11, _⟩ => ⟨S1, .i32⟩
  | .hbm, ⟨12, _⟩ => ⟨S_, .i32⟩
  | .hbm, ⟨13, _⟩ => ⟨S16x8x1, .i32⟩
  | .hbm, ⟨14, _⟩ => ⟨S16x8x1, .i1⟩
  | .hbm, ⟨15, _⟩ => ⟨S1x1x1, .i32⟩
  | .hbm, ⟨16, _⟩ => ⟨S16x8x1, .i32⟩
  | .hbm, ⟨17, _⟩ => ⟨S16x8x1, .i1⟩
  | .hbm, ⟨18, _⟩ => ⟨S16x8x1, .i1⟩
  | .hbm, ⟨19, _⟩ => ⟨S_, .i1⟩
  | .hbm, ⟨20, _⟩ => ⟨S16x8, .i1⟩
  | .hbm, ⟨21, _⟩ => ⟨S262144x16x8, .i32⟩
  | .hbm, ⟨22, _⟩ => ⟨S262144x16x8, .i1⟩
  | .hbm, ⟨23, _⟩ => ⟨S_, .i32⟩
  | .hbm, ⟨24, _⟩ => ⟨S262144x16x8, .i32⟩
  | .hbm, ⟨25, _⟩ => ⟨S262144x16x8, .i32⟩
  | .hbm, ⟨26, _⟩ => ⟨S1x16x8, .i32⟩
  | .hbm, ⟨27, _⟩ => ⟨S262144x16x8, .i32⟩
  | .hbm, ⟨28, _⟩ => ⟨S262144x16x8, .i32⟩
  | .hbm, ⟨29, _⟩ => ⟨S_, .i32⟩
  | .hbm, ⟨30, _⟩ => ⟨S262144x16, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S262144x16, .i32⟩
  | .hbm, ⟨38, _⟩ => ⟨S262144x16, .i32⟩
  | .hbm, ⟨39, _⟩ => ⟨S_, .i32⟩
  | .hbm, ⟨40, _⟩ => ⟨S262144x16, .i32⟩
  | .hbm, ⟨41, _⟩ => ⟨S262144x16, .i1⟩
  | .hbm, ⟨42, _⟩ => ⟨S_, .i32⟩
  | .hbm, ⟨43, _⟩ => ⟨S262144x16, .i32⟩
  | .hbm, ⟨44, _⟩ => ⟨S262144x16, .i1⟩
  | .hbm, ⟨45, _⟩ => ⟨S_, .i32⟩
  | .hbm, ⟨46, _⟩ => ⟨S_, .i1⟩
  | .hbm, ⟨47, _⟩ => ⟨S262144x16, .i1⟩
  | .hbm, ⟨48, _⟩ => ⟨S262144x16, .i1⟩
  | .hbm, ⟨49, _⟩ => ⟨S262144x16, .i1⟩
  | .hbm, ⟨50, _⟩ => ⟨S262144x16, .i32⟩
  | .hbm, ⟨51, _⟩ => ⟨S262144x16, .i32⟩
  | .hbm, ⟨52, _⟩ => ⟨S262144x16, .i32⟩
  | _, _ => ⟨S262144x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_c_4 : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v5 : Ref sig .tc := ⟨.hbm, 52, rfl⟩

abbrev nD : Nat := 1
abbrev τ : Topo := Topo.v7x

variable {F : FTy → Type} [FloatOps F]
-- ==== Proof.Setup.lean ====
/-
  The launch as the library's theorem sees it, and the names the rest of the proof uses: the configuration of the one
  call, the resource algebra (the handshakes' rounds beside the counters of the tiles' own copies), the memrefs a tile
  addresses, and the parity that one word of the result holds.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueIdxCore
public import Idealize.ShloMosaic.Lib.WritesUnit
public import proofs.«01_k».proof.Proof.Gen.KernelIdeal
public import proofs.«01_k».proof.Proof.Gen.KernelIdeal.Skeleton

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are distinct and of the kinds the launch theorem asks for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

/-- The model of this launch's separation logic. -/
abbrev MM (F : FTy → Type) : Type := MT nD τ sig (HIx 1) (Elt F) ℕ UU ℕ

/-- The handshakes' rounds are the left factor; the counters of the tiles' copies, the right one, are found by instance. -/
abbrev EH : Emb UH (MT nD τ sig (HIx 1) (Elt F) ℕ UU ℕ) := embL

/-! ## What a tile addresses -/

abbrev inW : Memref sig .scVector .hbm S32x262144 .i32 := Memref.whole main_v0_scv
abbrev outW : Memref sig .scVector .hbm S16x262144 .i32 := Memref.whole main_v1_scv
abbrev in0 : Memref sig .scVector .vmem S32x1024 .i32 := Memref.whole cc0_scratch0
abbrev in1 : Memref sig .scVector .vmem S32x1024 .i32 := Memref.whole cc0_scratch1
abbrev out0 : Memref sig .scVector .vmem S16x1024 .i32 := Memref.whole cc0_scratch2
abbrev out1 : Memref sig .scVector .vmem S16x1024 .i32 := Memref.whole cc0_scratch3

/-- The SparseCore, the tile and the thread at a grid point. -/
abbrev cV (L : grid0.Coords) : Fin τ.nSC := (L 0).castLE hcore0
abbrev jV (L : grid0.Coords) : Fin τ.nSub := (L 1).castLE hsub0
abbrev tV (d : Dev nD) (L : grid0.Coords) : Thread nD τ := V d (cV L) (jV L)

/-! ## The value -/

/-- The parity check of row `r` on a column of 32 words: the eight words `4 j + (4 - r % 4) % 4`, added two by two, and
    the lowest bit of the sum. -/
def parity (col : Fin 32 → BitVec 32) (r : ℕ) : BitVec 32 :=
  let w (j : Fin 8) : BitVec 32 := col ⟨4 * j.val + (4 - r % 4) % 4, by omega⟩
  (((w 0 + w 1) + (w 2 + w 3)) + ((w 4 + w 5) + (w 6 + w 7))) &&& 1#32

/-- The parity checks of every column of an array of 32 rows, as an array of 16 rows. -/
def parities {n : ℕ} (A : (⟨2, ![32, n]⟩ : Shape).Idx → BitVec 32) : (⟨2, ![16, n]⟩ : Shape).Idx → BitVec 32 :=
  fun y => parity (fun a => A (ix2 a (y 1))) (y 0).val

end Cert.Proof.Sc

end
-- ==== Proof.Trip.lean ====
/-
  One trip of the kernel's inner loop, over any memrefs: from the 32 rows of the fetched block at sixteen columns it
  leaves the 16 parity checks of these columns in the block to write out, and the block's other columns as they were.
-/
module

public import proofs.«01_k».proof.Proof.Setup
public import Idealize.ShloMosaic.Lib.Pipeline.Value

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-! ## One strip of sixteen columns -/

/-- The check of eight strips: added two by two, the lowest bit kept, lane by lane. -/
def check (l0 l1 l2 l3 l4 l5 l6 l7 : Vec F S1x16 .i32) : IVec S16 32 :=
  andi (addi (addi (addi (shapeCast S16 l0 shapeCasts_S1x16_S16) (shapeCast S16 l1 shapeCasts_S1x16_S16))
        (addi (shapeCast S16 l2 shapeCasts_S1x16_S16) (shapeCast S16 l3 shapeCasts_S1x16_S16)))
      (addi (addi (shapeCast S16 l4 shapeCasts_S1x16_S16) (shapeCast S16 l5 shapeCasts_S1x16_S16))
        (addi (shapeCast S16 l6 shapeCasts_S1x16_S16) (shapeCast S16 l7 shapeCasts_S1x16_S16))))
    (broadcast S16 1#32)

/-- The check, lane by lane, of strips as the stores write it. -/
theorem check_apply (l0 l1 l2 l3 l4 l5 l6 l7 : Vec F S1x16 .i32) (x : S1x16.Idx) :
    shapeCast S1x16 (check l0 l1 l2 l3 l4 l5 l6 l7) shapeCasts_S16_S1x16 x
      = ((((l0 x : BitVec 32) + l1 x) + (l2 x + l3 x)) + ((l4 x + l5 x) + (l6 x + l7 x))) &&& 1#32 := by
  have e (l : Vec F S1x16 .i32) : shapeCast S1x16 (shapeCast S16 l shapeCasts_S1x16_S16) shapeCasts_S16_S1x16 = l :=
    shapeCast_shapeCast l _ _
  conv_rhs => rw [← e l0, ← e l1, ← e l2, ← e l3, ← e l4, ← e l5, ← e l6, ← e l7]
  rfl

/-- The four checks of a trip as the printed parts compute them. -/
theorem pay1_eq (l0 l1 l2 l3 l4 l5 l6 l7 : Vec F S1x16 .i32) : k0_pay1 l0 l1 l2 l3 l4 l5 l6 l7 = check l0 l1 l2 l3 l4 l5 l6 l7 := rfl
theorem pay2_eq (l0 l1 l2 l3 l4 l5 l6 l7 : Vec F S1x16 .i32) : k0_pay2 l0 l1 l2 l3 l4 l5 l6 l7 = check l0 l1 l2 l3 l4 l5 l6 l7 := rfl
theorem pay5_eq (l0 l1 l2 l3 l4 l5 l6 l7 : Vec F S1x16 .i32) :
    k0_pay5 (k0_pay3 l0) (k0_pay4 l1) l2 l3 l4 l5 l6 l7 = check l0 l1 l2 l3 l4 l5 l6 l7 := rfl
theorem pay10_eq (l0 l1 l2 l3 l4 l5 l6 l7 : Vec F S1x16 .i32) :
    k0_pay10 (k0_pay6 l0) (k0_pay7 l1) (k0_pay8 l2) (k0_pay9 l3) l4 l5 l6 l7 = check l0 l1 l2 l3 l4 l5 l6 l7 := rfl

section Strip

variable {κ : Kind} {sp : Space} (k : Fin k0_t1_loop.trips)

theorem k_lt : k.val < 64 := k.isLt

/-- Lane `x` of trip `k`'s strip is column `16 k + x`. -/
def colOf (x : S1x16.Idx) : Fin 1024 := ⟨16 * k.val + (x 1).val, by have := k_lt k; have := idx2_lt1 x; omega⟩

/-- A strip loaded from row `a` is that row at the trip's columns. -/
theorem load_apply (v : View sig κ sp S32x1024 .i32) (f : v.ty.Contents (Elt F)) {off : Fin 2 → ℕ} (a : Fin 32)
    (inb : ∀ b, off b + S1x16.size b ≤ S32x1024.size b) (hoff : off = ![a.val, 16 * k.val]) (x : S1x16.Idx) :
    v.readAt (Elt F) (Rect.unit (s := S32x1024) off S1x16.size inb).toLoadRect f x = v.read (Elt F) f (ix2 a (colOf k x)) := by
  subst hoff
  show v.read (Elt F) f ((Rect.unit (s := S32x1024) ![a.val, 16 * k.val] S1x16.size inb).emb x) = _
  congr 1
  funext b
  apply Fin.ext
  match b with
  | ⟨0, _⟩ => show a.val + 1 * (x 0).val = a.val; have := idx2_lt0 x; omega
  | ⟨1, _⟩ => show 16 * k.val + 1 * (x 1).val = 16 * k.val + (x 1).val; omega

/-- Piece `p` of a list of stores writes row `r` of `G` at trip `k`'s columns. -/
def WritesRow (G : S16x1024.Idx → BitVec 32) (p : View.Piece (Elt F) S16x1024 .i32) (r : Fin 16) : Prop :=
  ∃ (off : Fin 2 → ℕ) (inb : ∀ b, off b + S1x16.size b ≤ S16x1024.size b) (w : S1x16.Idx → BitVec 32),
    off = ![r.val, 16 * k.val] ∧ p = ⟨Rect.unit (s := S16x1024) off S1x16.size inb, w⟩ ∧ ∀ x, w x = G (ix2 r (colOf k x))

/-- An index's row. -/
def rowOf (y : S16x1024.Idx) : Fin 16 := ⟨(y 0).val, idx2_lt0 y⟩

/-- Stores that write every row of `G` at trip `k`'s columns leave `G` there and the rest as it was. -/
theorem read_rows (v : View sig κ sp S16x1024 .i32) (f : v.ty.Contents (Elt F)) (G : S16x1024.Idx → BitVec 32) (y : S16x1024.Idx) :
    ∀ (L : List (View.Piece (Elt F) S16x1024 .i32)) (rows : List (Fin 16)), List.Forall₂ (WritesRow k G) L rows →
      v.read (Elt F) (v.writes (Elt F) f L) y
        = if (16 * k.val ≤ (y 1).val ∧ (y 1).val < 16 * k.val + 16) ∧ rowOf y ∈ rows then G y else v.read (Elt F) f y
  | [], _, h => by cases h; simp
  | p :: L, _, h => by
    cases h with
    | @cons _ r _ rows hp hL =>
      obtain ⟨off, inb, w, rfl, rfl, hw⟩ := hp
      have ih := read_rows v f G y L rows hL
      by_cases hy : (16 * k.val ≤ (y 1).val ∧ (y 1).val < 16 * k.val + 16) ∧ rowOf y = r
      · obtain ⟨hc, hr⟩ := hy
        rw [if_pos ⟨hc, by rw [hr]; exact List.mem_cons_self⟩]
        have hx : (y 1).val - 16 * k.val < 16 := by omega
        rw [View.read_writes_cons_unit_of_mem v f inb w L y (ix2 (0 : Fin 1) (⟨(y 1).val - 16 * k.val, hx⟩ : Fin 16)) rfl ?_, hw]
        · congr 1
          refine Eq.trans ?_ (eq_ix2 y).symm
          refine congrArg₂ ix2 ?_ ?_
          · exact hr.symm
          · exact Fin.ext (show 16 * k.val + ((y 1).val - 16 * k.val) = (y 1).val by omega)
        · intro a
          match a with
          | ⟨0, _⟩ => show (y 0).val = r.val + 0; rw [← hr]; rfl
          | ⟨1, _⟩ => show (y 1).val = 16 * k.val + ((y 1).val - 16 * k.val); omega
      · have hmiss : v.read (Elt F) (v.writes (Elt F) f ((⟨Rect.unit (s := S16x1024) ![r.val, 16 * k.val] S1x16.size inb, w⟩ : View.Piece (Elt F) S16x1024 .i32) :: L)) y
            = v.read (Elt F) (v.writes (Elt F) f L) y := by
          by_cases hc : 16 * k.val ≤ (y 1).val ∧ (y 1).val < 16 * k.val + 16
          · have hr : (y 0).val ≠ r.val := fun e => hy ⟨hc, Fin.ext e⟩
            exact View.read_writes_cons_unit_of_not_mem v f inb w L y rfl (0 : Fin 2)
              (show (y 0).val < r.val ∨ r.val + 1 ≤ (y 0).val by omega)
          · exact View.read_writes_cons_unit_of_not_mem v f inb w L y rfl (1 : Fin 2)
              (show (y 1).val < 16 * k.val ∨ 16 * k.val + 16 ≤ (y 1).val by omega)
        rw [hmiss, ih]
        refine if_congr ?_ rfl rfl
        constructor
        · exact fun ⟨hc, hm⟩ => ⟨hc, List.mem_cons_of_mem _ hm⟩
        · rintro ⟨hc, hm⟩
          exact ⟨hc, (List.mem_cons.mp hm).resolve_left fun e => hy ⟨hc, e⟩⟩

/-- A stored check is its row of the parities, when its strips are the eight words the row adds up. -/
theorem writes_check (A : S32x1024.Idx → BitVec 32) (r : Fin 16) {off : Fin 2 → ℕ} (hoff : off = ![r.val, 16 * k.val])
    (inb : ∀ b, off b + S1x16.size b ≤ S16x1024.size b) (l0 l1 l2 l3 l4 l5 l6 l7 : Vec F S1x16 .i32)
    (h : ∀ (j : Fin 8) (x : S1x16.Idx),
      (![l0, l1, l2, l3, l4, l5, l6, l7] j x : BitVec 32) = A (ix2 ⟨4 * j.val + (4 - r.val % 4) % 4, by omega⟩ (colOf k x))) :
    WritesRow (F := F) k (parities A) ⟨Rect.unit (s := S16x1024) off S1x16.size inb, shapeCast S1x16 (check l0 l1 l2 l3 l4 l5 l6 l7) shapeCasts_S16_S1x16⟩ r := by
  refine ⟨off, inb, _, hoff, rfl, fun x => ?_⟩
  rw [check_apply]
  have g (j : Fin 8) := h j x
  rw [show l0 x = _ from g 0, show l1 x = _ from g 1, show l2 x = _ from g 2, show l3 x = _ from g 3,
    show l4 x = _ from g 4, show l5 x = _ from g 5, show l6 x = _ from g 6, show l7 x = _ from g 7]
  rfl

end Strip

/-! ## The trip -/

/-- Trip `k` of the loop, run by the executor: the fetched block is read and kept; of the block to write out the columns
    `16 k … 16 k + 15` become the parities of the fetched block and the others stay. -/
theorem trip_run (d : Dev nD) (L : grid0.Coords)
    (a2 : Memref sig .scVector .hbm S32x262144 .i32) (h2 : a2.IsWhole) (a3 : Memref sig .scVector .hbm S16x262144 .i32) (h3 : a3.IsWhole)
    (a4 : Memref sig .scVector .vmem S32x1024 .i32) (h4 : a4.IsWhole) (a5 : Memref sig .scVector .vmem S32x1024 .i32) (h5 : a5.IsWhole)
    (a6 : Memref sig .scVector .vmem S16x1024 .i32) (h6 : a6.IsWhole) (a7 : Memref sig .scVector .vmem S16x1024 .i32) (h7 : a7.IsWhole)
    (a8 a9 a10 : DmaSems sig S_) (k : Fin k0_t1_loop.trips)
    (fi : Buf (Elt F) (a4.view.loc (tV d L))) (fo : Buf (Elt F) (a6.view.loc (tV d L))) :
    iprop((a4.view.loc (tV d L) ↦[a4.view.set]{fullShare} fi) ∗ (a6.view.loc (tV d L) ↦[a6.view.set]{fullShare} fo))
      ⊢ wp frame (wpE (defs₀ (F := F)) 𝒱₀ (tV d L) none) Set.univ
          (k0_t1_body L a2 h2 a3 h3 a4 h4 a5 h5 a6 h6 a7 h7 a8 a9 a10 k ())
          fun _ => (iprop((a4.view.loc (tV d L) ↦[a4.view.set]{fullShare} fi) ∗ ∃ fo', ⌜∀ y : S16x1024.Idx, a6.view.read (Elt F) fo' y = if 16 * k.val ≤ (y 1).val ∧ (y 1).val < 16 * k.val + 16 then parities (a4.view.read (Elt F) fi) y else a6.view.read (Elt F) fo y⌝ ∗ (a6.view.loc (tV d L) ↦[a6.view.set]{fullShare} fo')) : sProp 𝕄) := by
  unfold k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  iintro ⟨Hi, Ho⟩
  sl_exec
  sl_step
  isplitl [Hi]; · iexact Hi
  iexists _
  isplitr
  rotate_left
  · iexact Ho
  · ipureintro
    intro y
    dsimp only
    simp only [pay1_eq, pay2_eq, pay5_eq, pay10_eq]
    have s0 (j : Fin 8) (x : S1x16.Idx) : (![View.readAt (Elt F) a4.view (Rect.unit (s := S32x1024) (k0_off3 k) S1x16.size (k0_off3_inb k)).toLoadRect fi, View.readAt (Elt F) a4.view (Rect.unit (s := S32x1024) (k0_off4 k) S1x16.size (k0_off4_inb k)).toLoadRect fi, View.readAt (Elt F) a4.view (Rect.unit (s := S32x1024) (k0_off5 k) S1x16.size (k0_off5_inb k)).toLoadRect fi, View.readAt (Elt F) a4.view (Rect.unit (s := S32x1024) (k0_off6 k) S1x16.size (k0_off6_inb k)).toLoadRect fi, View.readAt (Elt F) a4.view (Rect.unit (s := S32x1024) (k0_off7 k) S1x16.size (k0_off7_inb k)).toLoadRect fi, View.readAt (Elt F) a4.view (Rect.unit (s := S32x1024) (k0_off8 k) S1x16.size (k0_off8_inb k)).toLoadRect fi, View.readAt (Elt F) a4.view (Rect.unit (s := S32x1024) (k0_off9 k) S1x16.size (k0_off9_inb k)).toLoadRect fi, View.readAt (Elt F) a4.view (Rect.unit (s := S32x1024) (k0_off10 k) S1x16.size (k0_off10_inb k)).toLoadRect fi] j x : BitVec 32)
        = a4.view.read (Elt F) fi (ix2 ⟨4 * j.val + 0, by omega⟩ (colOf k x)) := by
      fin_cases j
      · exact load_apply k a4.view fi 0 _ (k0_off3_eq k) x
      · exact load_apply k a4.view fi 4 _ (k0_off4_eq k) x
      · exact load_apply k a4.view fi 8 _ (k0_off5_eq k) x
      · exact load_apply k a4.view fi 12 _ (k0_off6_eq k) x
      · exact load_apply k a4.view fi 16 _ (k0_off7_eq k) x
      · exact load_apply k a4.view fi 20 _ (k0_off8_eq k) x
      · exact load_apply k a4.view fi 24 _ (k0_off9_eq k) x
      · exact load_apply k a4.view fi 28 _ (k0_off10_eq k) x
    have s3 (j : Fin 8) (x : S1x16.Idx) : (![View.readAt (Elt F) a4.view (Rect.unit (s := S32x1024) (k0_off11 k) S1x16.size (k0_off11_inb k)).toLoadRect fi, View.readAt (Elt F) a4.view (Rect.unit (s := S32x1024) (k0_off12 k) S1x16.size (k0_off12_inb k)).toLoadRect fi, View.readAt (Elt F) a4.view (Rect.unit (s := S32x1024) (k0_off13 k) S1x16.size (k0_off13_inb k)).toLoadRect fi, View.readAt (Elt F) a4.view (Rect.unit (s := S32x1024) (k0_off14 k) S1x16.size (k0_off14_inb k)).toLoadRect fi, View.readAt (Elt F) a4.view (Rect.unit (s := S32x1024) (k0_off15 k) S1x16.size (k0_off15_inb k)).toLoadRect fi, View.readAt (Elt F) a4.view (Rect.unit (s := S32x1024) (k0_off16 k) S1x16.size (k0_off16_inb k)).toLoadRect fi, View.readAt (Elt F) a4.view (Rect.unit (s := S32x1024) (k0_off17 k) S1x16.size (k0_off17_inb k)).toLoadRect fi, View.readAt (Elt F) a4.view (Rect.unit (s := S32x1024) (k0_off18 k) S1x16.size (k0_off18_inb k)).toLoadRect fi] j x : BitVec 32)
        = a4.view.read (Elt F) fi (ix2 ⟨4 * j.val + 3, by omega⟩ (colOf k x)) := by
      fin_cases j
      · exact load_apply k a4.view fi 3 _ (k0_off11_eq k) x
      · exact load_apply k a4.view fi 7 _ (k0_off12_eq k) x
      · exact load_apply k a4.view fi 11 _ (k0_off13_eq k) x
      · exact load_apply k a4.view fi 15 _ (k0_off14_eq k) x
      · exact load_apply k a4.view fi 19 _ (k0_off15_eq k) x
      · exact load_apply k a4.view fi 23 _ (k0_off16_eq k) x
      · exact load_apply k a4.view fi 27 _ (k0_off17_eq k) x
      · exact load_apply k a4.view fi 31 _ (k0_off18_eq k) x
    have s2 (j : Fin 8) (x : S1x16.Idx) : (![View.readAt (Elt F) a4.view (Rect.unit (s := S32x1024) (k0_off19 k) S1x16.size (k0_off19_inb k)).toLoadRect fi, View.readAt (Elt F) a4.view (Rect.unit (s := S32x1024) (k0_off20 k) S1x16.size (k0_off20_inb k)).toLoadRect fi, View.readAt (Elt F) a4.view (Rect.unit (s := S32x1024) (k0_off21 k) S1x16.size (k0_off21_inb k)).toLoadRect fi, View.readAt (Elt F) a4.view (Rect.unit (s := S32x1024) (k0_off22 k) S1x16.size (k0_off22_inb k)).toLoadRect fi, View.readAt (Elt F) a4.view (Rect.unit (s := S32x1024) (k0_off23 k) S1x16.size (k0_off23_inb k)).toLoadRect fi, View.readAt (Elt F) a4.view (Rect.unit (s := S32x1024) (k0_off24 k) S1x16.size (k0_off24_inb k)).toLoadRect fi, View.readAt (Elt F) a4.view (Rect.unit (s := S32x1024) (k0_off25 k) S1x16.size (k0_off25_inb k)).toLoadRect fi, View.readAt (Elt F) a4.view (Rect.unit (s := S32x1024) (k0_off26 k) S1x16.size (k0_off26_inb k)).toLoadRect fi] j x : BitVec 32)
        = a4.view.read (Elt F) fi (ix2 ⟨4 * j.val + 2, by omega⟩ (colOf k x)) := by
      fin_cases j
      · exact load_apply k a4.view fi 2 _ (k0_off19_eq k) x
      · exact load_apply k a4.view fi 6 _ (k0_off20_eq k) x
      · exact load_apply k a4.view fi 10 _ (k0_off21_eq k) x
      · exact load_apply k a4.view fi 14 _ (k0_off22_eq k) x
      · exact load_apply k a4.view fi 18 _ (k0_off23_eq k) x
      · exact load_apply k a4.view fi 22 _ (k0_off24_eq k) x
      · exact load_apply k a4.view fi 26 _ (k0_off25_eq k) x
      · exact load_apply k a4.view fi 30 _ (k0_off26_eq k) x
    have s1 (j : Fin 8) (x : S1x16.Idx) : (![View.readAt (Elt F) a4.view (Rect.unit (s := S32x1024) (k0_off27 k) S1x16.size (k0_off27_inb k)).toLoadRect fi, View.readAt (Elt F) a4.view (Rect.unit (s := S32x1024) (k0_off28 k) S1x16.size (k0_off28_inb k)).toLoadRect fi, View.readAt (Elt F) a4.view (Rect.unit (s := S32x1024) (k0_off29 k) S1x16.size (k0_off29_inb k)).toLoadRect fi, View.readAt (Elt F) a4.view (Rect.unit (s := S32x1024) (k0_off30 k) S1x16.size (k0_off30_inb k)).toLoadRect fi, View.readAt (Elt F) a4.view (Rect.unit (s := S32x1024) (k0_off31 k) S1x16.size (k0_off31_inb k)).toLoadRect fi, View.readAt (Elt F) a4.view (Rect.unit (s := S32x1024) (k0_off32 k) S1x16.size (k0_off32_inb k)).toLoadRect fi, View.readAt (Elt F) a4.view (Rect.unit (s := S32x1024) (k0_off33 k) S1x16.size (k0_off33_inb k)).toLoadRect fi, View.readAt (Elt F) a4.view (Rect.unit (s := S32x1024) (k0_off34 k) S1x16.size (k0_off34_inb k)).toLoadRect fi] j x : BitVec 32)
        = a4.view.read (Elt F) fi (ix2 ⟨4 * j.val + 1, by omega⟩ (colOf k x)) := by
      fin_cases j
      · exact load_apply k a4.view fi 1 _ (k0_off27_eq k) x
      · exact load_apply k a4.view fi 5 _ (k0_off28_eq k) x
      · exact load_apply k a4.view fi 9 _ (k0_off29_eq k) x
      · exact load_apply k a4.view fi 13 _ (k0_off30_eq k) x
      · exact load_apply k a4.view fi 17 _ (k0_off31_eq k) x
      · exact load_apply k a4.view fi 21 _ (k0_off32_eq k) x
      · exact load_apply k a4.view fi 25 _ (k0_off33_eq k) x
      · exact load_apply k a4.view fi 29 _ (k0_off34_eq k) x
    refine (read_rows k a6.view fo (parities (a4.view.read (Elt F) fi)) y _ [15, 14, 13, 12, 11, 10, 9, 8, 7, 6, 5, 4, 3, 2, 1, 0] ?_).trans ?_
    · exact .cons (writes_check k _ 15 (k0_off50_eq k) _ _ _ _ _ _ _ _ _ s1) <|
        .cons (writes_check k _ 14 (k0_off49_eq k) _ _ _ _ _ _ _ _ _ s2) <|
        .cons (writes_check k _ 13 (k0_off48_eq k) _ _ _ _ _ _ _ _ _ s3) <|
        .cons (writes_check k _ 12 (k0_off47_eq k) _ _ _ _ _ _ _ _ _ s0) <|
        .cons (writes_check k _ 11 (k0_off46_eq k) _ _ _ _ _ _ _ _ _ s1) <|
        .cons (writes_check k _ 10 (k0_off45_eq k) _ _ _ _ _ _ _ _ _ s2) <|
        .cons (writes_check k _ 9 (k0_off44_eq k) _ _ _ _ _ _ _ _ _ s3) <|
        .cons (writes_check k _ 8 (k0_off43_eq k) _ _ _ _ _ _ _ _ _ s0) <|
        .cons (writes_check k _ 7 (k0_off42_eq k) _ _ _ _ _ _ _ _ _ s1) <|
        .cons (writes_check k _ 6 (k0_off41_eq k) _ _ _ _ _ _ _ _ _ s2) <|
        .cons (writes_check k _ 5 (k0_off40_eq k) _ _ _ _ _ _ _ _ _ s3) <|
        .cons (writes_check k _ 4 (k0_off39_eq k) _ _ _ _ _ _ _ _ _ s0) <|
        .cons (writes_check k _ 3 (k0_off38_eq k) _ _ _ _ _ _ _ _ _ s1) <|
        .cons (writes_check k _ 2 (k0_off37_eq k) _ _ _ _ _ _ _ _ _ s2) <|
        .cons (writes_check k _ 1 (k0_off36_eq k) _ _ _ _ _ _ _ _ _ s3) <|
        .cons (writes_check k _ 0 (k0_off35_eq k) _ _ _ _ _ _ _ _ _ s0) <|
        .nil
    · have hm (r : Fin 16) : r ∈ ([15, 14, 13, 12, 11, 10, 9, 8, 7, 6, 5, 4, 3, 2, 1, 0] : List (Fin 16)) := by revert r; decide
      simp only [hm, and_true]

end Cert.Proof.Sc

end
-- ==== Proof.Loop.lean ====
/-
  The kernel's eight inner loops are one loop: they differ only in which of the two fetched blocks they read and which
  of the two result blocks they fill. Run once, over any memrefs, the loop leaves in the result block the parity checks
  of every column of the fetched block.
-/
module

public import proofs.«01_k».proof.Proof.Trip

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-! ## The loops are one loop -/

section Same

variable (i : grid0.Coords) (a2 : Memref sig .scVector .hbm S32x262144 .i32) (h2 : a2.IsWhole)
  (a3 : Memref sig .scVector .hbm S16x262144 .i32) (h3 : a3.IsWhole)
  (a4 : Memref sig .scVector .vmem S32x1024 .i32) (h4 : a4.IsWhole) (a5 : Memref sig .scVector .vmem S32x1024 .i32) (h5 : a5.IsWhole)
  (a6 : Memref sig .scVector .vmem S16x1024 .i32) (h6 : a6.IsWhole) (a7 : Memref sig .scVector .vmem S16x1024 .i32) (h7 : a7.IsWhole)
  (a8 a9 a10 : DmaSems sig S_)

/-- The loop over the first pair of blocks: from `a4` into `a6`. -/
abbrev loop : Prog (TpuEff nD τ sig (Elt F) Λ₀ (.scVector ((i 0).castLE hcore0) ((i 1).castLE hsub0))) PUnit :=
  Scf.Loop.for k0_t1_loop k0_t1_ok ⟨⟩ (k0_t1_body (F := F) i a2 h2 a3 h3 a4 h4 a5 h5 a6 h6 a7 h7 a8 a9 a10)

/-- Loop 2 is the first loop over the other pair of blocks. -/
theorem loop2_eq :
    Scf.Loop.for k0_t2_loop k0_t2_ok ⟨⟩ (k0_t2_body (F := F) i a2 h2 a3 h3 a4 h4 a5 h5 a6 h6 a7 h7 a8 a9 a10)
      = loop i a2 h2 a3 h3 a5 h5 a4 h4 a7 h7 a6 h6 a8 a9 a10 := rfl

/-- Loop 3 is the first loop over the same pair of blocks. -/
theorem loop3_eq (v : BitVec 32) :
    Scf.Loop.for k0_t3_loop k0_t3_ok ⟨⟩ (k0_t3_body (F := F) i a2 h2 a3 h3 a4 h4 a5 h5 a6 h6 a7 h7 a8 a9 a10 v)
      = loop i a2 h2 a3 h3 a4 h4 a5 h5 a6 h6 a7 h7 a8 a9 a10 := rfl

/-- Loop 4 is the first loop over the other pair of blocks. -/
theorem loop4_eq (v : BitVec 32) :
    Scf.Loop.for k0_t4_loop k0_t4_ok ⟨⟩ (k0_t4_body (F := F) i a2 h2 a3 h3 a4 h4 a5 h5 a6 h6 a7 h7 a8 a9 a10 v)
      = loop i a2 h2 a3 h3 a5 h5 a4 h4 a7 h7 a6 h6 a8 a9 a10 := rfl

/-- Loop 5 is the first loop over the same pair of blocks. -/
theorem loop5_eq (v : BitVec 32) :
    Scf.Loop.for k0_t5_loop k0_t5_ok ⟨⟩ (k0_t5_body (F := F) i a2 h2 a3 h3 a4 h4 a5 h5 a6 h6 a7 h7 a8 a9 a10 v)
      = loop i a2 h2 a3 h3 a4 h4 a5 h5 a6 h6 a7 h7 a8 a9 a10 := rfl

/-- Loop 6 is the first loop over the other pair of blocks. -/
theorem loop6_eq (v : BitVec 32) :
    Scf.Loop.for k0_t6_loop k0_t6_ok ⟨⟩ (k0_t6_body (F := F) i a2 h2 a3 h3 a4 h4 a5 h5 a6 h6 a7 h7 a8 a9 a10 v)
      = loop i a2 h2 a3 h3 a5 h5 a4 h4 a7 h7 a6 h6 a8 a9 a10 := rfl

/-- Loop 7 is the first loop over the same pair of blocks. -/
theorem loop7_eq (v : BitVec 32) :
    Scf.Loop.for k0_t7_loop k0_t7_ok ⟨⟩ (k0_t7_body (F := F) i a2 h2 a3 h3 a4 h4 a5 h5 a6 h6 a7 h7 a8 a9 a10 v)
      = loop i a2 h2 a3 h3 a4 h4 a5 h5 a6 h6 a7 h7 a8 a9 a10 := rfl

/-- Loop 8 is the first loop over the other pair of blocks. -/
theorem loop8_eq (v : BitVec 32) :
    Scf.Loop.for k0_t8_loop k0_t8_ok ⟨⟩ (k0_t8_body (F := F) i a2 h2 a3 h3 a4 h4 a5 h5 a6 h6 a7 h7 a8 a9 a10 v)
      = loop i a2 h2 a3 h3 a5 h5 a4 h4 a7 h7 a6 h6 a8 a9 a10 := rfl

end Same

/-! ## The loop's run -/

/-- The loop makes 64 trips. -/
theorem trips_eq : k0_t1_loop.trips = 64 := rfl

/-- Before trip `k`, the fetched block is as it was and the first `16 k` columns of the result block hold their checks. -/
def loopInv (d : Dev nD) (L : grid0.Coords) (a4 : Memref sig .scVector .vmem S32x1024 .i32) (a6 : Memref sig .scVector .vmem S16x1024 .i32)
    (fi : Buf (Elt F) (a4.view.loc (tV d L))) (k : ℕ) (_ : PUnit) : sProp 𝕄 :=
  iprop((a4.view.loc (tV d L) ↦[a4.view.set]{fullShare} fi)
    ∗ ∃ fo, ⌜∀ y : S16x1024.Idx, (y 1).val < 16 * k → a6.view.read (Elt F) fo y = parities (a4.view.read (Elt F) fi) y⌝
      ∗ (a6.view.loc (tV d L) ↦[a6.view.set]{fullShare} fo))

/-- The loop keeps the fetched block and leaves in the result block the parity checks of all its columns. -/
theorem loop_run (d : Dev nD) (L : grid0.Coords) (a2 : Memref sig .scVector .hbm S32x262144 .i32) (h2 : a2.IsWhole)
    (a3 : Memref sig .scVector .hbm S16x262144 .i32) (h3 : a3.IsWhole)
    (a4 : Memref sig .scVector .vmem S32x1024 .i32) (h4 : a4.IsWhole) (a5 : Memref sig .scVector .vmem S32x1024 .i32) (h5 : a5.IsWhole)
    (a6 : Memref sig .scVector .vmem S16x1024 .i32) (h6 : a6.IsWhole) (a7 : Memref sig .scVector .vmem S16x1024 .i32) (h7 : a7.IsWhole)
    (a8 a9 a10 : DmaSems sig S_)
    (fi : Buf (Elt F) (a4.view.loc (tV d L))) (fo : Buf (Elt F) (a6.view.loc (tV d L)))
    {β : Type} {kk : PUnit → Prog (TpuEff nD τ sig (Elt F) Λ₀ (.scVector (cV L) (jV L))) β} {Q : β → sProp 𝕄} :
    iprop((a4.view.loc (tV d L) ↦[a4.view.set]{fullShare} fi) ∗ (a6.view.loc (tV d L) ↦[a6.view.set]{fullShare} fo))
      ⊢ iprop((((a4.view.loc (tV d L) ↦[a4.view.set]{fullShare} fi)
            ∗ ∃ fo', ⌜a6.view.read (Elt F) fo' = parities (a4.view.read (Elt F) fi)⌝
              ∗ (a6.view.loc (tV d L) ↦[a6.view.set]{fullShare} fo'))
          -∗ wp frame (wpE (defs₀ (F := F)) 𝒱₀ (tV d L) none) Set.univ (kk ⟨⟩) Q)
        -∗ wp frame (wpE (defs₀ (F := F)) 𝒱₀ (tV d L) none) Set.univ
          (loop (F := F) L a2 h2 a3 h3 a4 h4 a5 h5 a6 h6 a7 h7 a8 a9 a10 >>= kk) Q) := by
  have trip : ∀ (k : Fin k0_t1_loop.trips) (acc : PUnit),
      loopInv d L a4 a6 fi k acc ⊢ wp frame (wpE (defs₀ (F := F)) 𝒱₀ (tV d L) none) Set.univ
        (k0_t1_body (F := F) L a2 h2 a3 h3 a4 h4 a5 h5 a6 h6 a7 h7 a8 a9 a10 k acc)
        (loopInv d L a4 a6 fi (k.val + 1)) := by
    intro k acc
    unfold loopInv
    iintro ⟨Hi, %f, %hf, Ho⟩
    iapply (wp_wand_r frame (wpE (defs₀ (F := F)) 𝒱₀ (tV d L) none) Set.univ)
    isplitl [Hi Ho]
    · iapply (trip_run d L a2 h2 a3 h3 a4 h4 a5 h5 a6 h6 a7 h7 a8 a9 a10 k fi f)
      isplitl [Hi] <;> iassumption
    iintro %_ ⟨Hi, %f', %hf', Ho⟩
    isplitl [Hi]; · iexact Hi
    iexists f'
    isplitr
    · ipureintro
      intro y hy
      rw [hf' y]
      split_ifs with h
      · rfl
      · exact hf y (by omega)
    · iexact Ho
  iintro H HK
  iapply (Scf.wp_for_bind frame (wpE (defs₀ (F := F)) 𝒱₀ (tV d L) none) Set.univ _ _ _ k0_t1_ok ⟨⟩ _ (loopInv d L a4 a6 fi) trip) $$ [H]
  · unfold loopInv
    icases H with ⟨Hi, Ho⟩
    isplitl [Hi]; · iexact Hi
    iexists fo
    isplitr
    · ipureintro; intro y hy; omega
    · iexact Ho
  iintro %_ HI
  iapply HK
  unfold loopInv
  icases HI with ⟨Hi, %f, %hf, Ho⟩
  isplitl [Hi]; · iexact Hi
  iexists f
  isplitr
  · ipureintro
    refine funext fun y => hf y ?_
    show (y 1).val < 16 * 64
    exact idx2_lt1 y
  · iexact Ho

end Cert.Proof.Sc

end
-- ==== Proof.Tile.lean ====
/-
  The kernel's body at one grid point, over any memrefs: it fetches the eight blocks of 1024 columns that belong to the
  tile, one ahead, checks each, and writes each block of checks out while the next is computed.
-/
module

public import proofs.«01_k».proof.Proof.Loop

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-! ## The blocks of 1024 columns -/

/-- The block of 1024 columns at an offset, of an array of 32 rows. -/
abbrev inAt (a2 : Memref sig .scVector .hbm S32x262144 .i32) (off : Fin 2 → ℕ)
    (inb : ∀ a, off a + S32x1024.size a ≤ S32x262144.size a) : Memref sig .scVector .hbm S32x1024 .i32 :=
  a2.slice (Rect.unit (s := S32x262144) off S32x1024.size inb) (fun _ => rfl)

/-- The block of 1024 columns at an offset, of an array of 16 rows. -/
abbrev outAt (a3 : Memref sig .scVector .hbm S16x262144 .i32) (off : Fin 2 → ℕ)
    (inb : ∀ a, off a + S16x1024.size a ≤ S16x262144.size a) : Memref sig .scVector .hbm S16x1024 .i32 :=
  a3.slice (Rect.unit (s := S16x262144) off S16x1024.size inb) (fun _ => rfl)

variable (d : Dev nD) (L : grid0.Coords)

/-- The elements of a memref, held by the tile at contents `f`. -/
abbrev pts {sp : Space} {s : Shape} (a : Memref sig .scVector sp s .i32) (f : Buf (Elt F) (a.view.loc (tV d L))) : sProp 𝕄 :=
  a.view.loc (tV d L) ↦[a.view.set]{fullShare} f

/-- The elements of a memref, held by the tile at contents that read as `v`. -/
abbrev reads {sp : Space} {s : Shape} (a : Memref sig .scVector sp s .i32) (v : s.Idx → BitVec 32) : sProp 𝕄 :=
  iprop(∃ f, ⌜a.view.read (Elt F) f = v⌝ ∗ pts d L a f)

/-- A memref written whole by a transfer reads as what the transfer carried, whatever it held before. -/
theorem read_transfer {sp : Space} {s : Shape} (a : Memref sig .scVector sp s .i32) (f : a.view.ty.Contents (Elt F))
    (x : s.Idx → BitVec 32) (l : List (View.Piece (Elt F) s .i32)) :
    a.view.read (Elt F) (a.view.writes (Elt F) f (⟨Rect.whole s, x⟩ :: l)) = x := by
  funext y
  have h := View.read_writes_cons_emb a.view f (Rect.whole s) x l y
  rwa [Rect.emb_whole_apply] at h

/-- A block of checks written out holds the checks of the block that was fetched for it. -/
theorem read_written {sp' : Space} (i : Memref sig .scVector .vmem S32x1024 .i32) (o : Memref sig .scVector sp' S16x1024 .i32)
    (f : i.view.ty.Contents (Elt F)) (Y : o.view.ty.Contents (Elt F)) (x : S32x1024.Idx → BitVec 32) (y : S16x1024.Idx → BitVec 32)
    (l : List (View.Piece (Elt F) S32x1024 .i32))
    (h : y = parities (i.view.read (Elt F) (i.view.writes (Elt F) f (⟨Rect.whole S32x1024, x⟩ :: l)))) :
    o.view.read (Elt F) (o.view.writes (Elt F) Y [⟨Rect.whole S16x1024, y⟩]) = parities x :=
  (read_transfer o Y y []).trans (h.trans (congrArg parities (read_transfer i f x l)))

/-- One more wait at no index of the launch. -/
theorem waits_insert {W W' : Waits sig (HIx 1)} (s : SemLoc sig) (h : ∀ p ∈ W', p ∈ W ∨ p.2 = none) :
    ∀ p ∈ insert (s, (none : HIx 1)) W', p ∈ W ∨ p.2 = none := fun p hp => by
  rcases Finset.mem_insert.mp hp with rfl | hp
  · exact .inr rfl
  · exact h p hp

set_option maxHeartbeats 2000000 in
/-- The body's run. -/
theorem body_run (a2 : Memref sig .scVector .hbm S32x262144 .i32) (h2 : a2.IsWhole)
    (a4 : Memref sig .scVector .vmem S32x1024 .i32) (h4 : a4.IsWhole) (a5 : Memref sig .scVector .vmem S32x1024 .i32) (h5 : a5.IsWhole)
    (a6 : Memref sig .scVector .vmem S16x1024 .i32) (h6 : a6.IsWhole) (a7 : Memref sig .scVector .vmem S16x1024 .i32) (h7 : a7.IsWhole)
    (a8 a9 a10 : DmaSems sig S_)
    (O : CellTallies nD τ sig (HIx 1)) (W : Waits sig (HIx 1)) (hO : ∀ g, O g none = 0)
    (X : Buf (Elt F) (a2.view.loc (tV d L))) (Y : Buf (Elt F) (outW.view.loc (tV d L)))
    (f4 : Buf (Elt F) (a4.view.loc (tV d L))) (f5 : Buf (Elt F) (a5.view.loc (tV d L)))
    (f6 : Buf (Elt F) (a6.view.loc (tV d L))) (f7 : Buf (Elt F) (a7.view.loc (tV d L))) :
    iprop(levAts (K (F := F)).L (K (F := F)).lev
        ∗ (pts d L (inAt a2 (k0_off1 L) (k0_off1_inb L)) X ∗
          pts d L (inAt a2 (k0_off2 L 1024#32) (k0_off2_inb L 0)) X ∗
          pts d L (inAt a2 (k0_off2 L 2048#32) (k0_off2_inb L 1)) X ∗
          pts d L (inAt a2 (k0_off2 L 3072#32) (k0_off2_inb L 2)) X ∗
          pts d L (inAt a2 (k0_off2 L 4096#32) (k0_off2_inb L 3)) X ∗
          pts d L (inAt a2 (k0_off2 L 5120#32) (k0_off2_inb L 4)) X ∗
          pts d L (inAt a2 (k0_off2 L 6144#32) (k0_off2_inb L 5)) X ∗
          pts d L (inAt a2 (k0_off2 L 7168#32) (k0_off2_inb L 6)) X)
        ∗ (pts d L (outAt outW (k0_off51 L 0#32) (k0_off51_inb L 0)) Y ∗
          pts d L (outAt outW (k0_off51 L 1024#32) (k0_off51_inb L 1)) Y ∗
          pts d L (outAt outW (k0_off51 L 2048#32) (k0_off51_inb L 2)) Y ∗
          pts d L (outAt outW (k0_off51 L 3072#32) (k0_off51_inb L 3)) Y ∗
          pts d L (outAt outW (k0_off51 L 4096#32) (k0_off51_inb L 4)) Y ∗
          pts d L (outAt outW (k0_off51 L 5120#32) (k0_off51_inb L 5)) Y ∗
          pts d L (outAt outW (k0_off51 L 6144#32) (k0_off51_inb L 6)) Y ∗
          pts d L (outAt outW (k0_off51 L 7168#32) (k0_off51_inb L 7)) Y)
        ∗ (pts d L a4 f4 ∗ pts d L a5 f5 ∗ pts d L a6 f6 ∗ pts d L a7 f7)
        ∗ (semVal (tV d L, SemLoc.dma a8.sem) 0 ∗ semVal (tV d L, SemLoc.dma a9.sem) 0 ∗ semVal (tV d L, SemLoc.dma a10.sem) 0)
        ∗ owes (tV d L) O W)
      ⊢ wp frame (wpE (defs₀ (F := F)) 𝒱₀ (tV d L) none) Set.univ
          (cc0_k (F := F) L a2 h2 outW (Memref.isWhole_whole _) a4 h4 a5 h5 a6 h6 a7 h7 a8 a9 a10)
          fun _ => (iprop(
            (pts d L (inAt a2 (k0_off1 L) (k0_off1_inb L)) X ∗
          pts d L (inAt a2 (k0_off2 L 1024#32) (k0_off2_inb L 0)) X ∗
          pts d L (inAt a2 (k0_off2 L 2048#32) (k0_off2_inb L 1)) X ∗
          pts d L (inAt a2 (k0_off2 L 3072#32) (k0_off2_inb L 2)) X ∗
          pts d L (inAt a2 (k0_off2 L 4096#32) (k0_off2_inb L 3)) X ∗
          pts d L (inAt a2 (k0_off2 L 5120#32) (k0_off2_inb L 4)) X ∗
          pts d L (inAt a2 (k0_off2 L 6144#32) (k0_off2_inb L 5)) X ∗
          pts d L (inAt a2 (k0_off2 L 7168#32) (k0_off2_inb L 6)) X)
            ∗ (reads d L (outAt outW (k0_off51 L 0#32) (k0_off51_inb L 0)) (parities ((inAt a2 (k0_off1 L) (k0_off1_inb L)).view.read (Elt F) X)) ∗
          reads d L (outAt outW (k0_off51 L 1024#32) (k0_off51_inb L 1)) (parities ((inAt a2 (k0_off2 L 1024#32) (k0_off2_inb L 0)).view.read (Elt F) X)) ∗
          reads d L (outAt outW (k0_off51 L 2048#32) (k0_off51_inb L 2)) (parities ((inAt a2 (k0_off2 L 2048#32) (k0_off2_inb L 1)).view.read (Elt F) X)) ∗
          reads d L (outAt outW (k0_off51 L 3072#32) (k0_off51_inb L 3)) (parities ((inAt a2 (k0_off2 L 3072#32) (k0_off2_inb L 2)).view.read (Elt F) X)) ∗
          reads d L (outAt outW (k0_off51 L 4096#32) (k0_off51_inb L 4)) (parities ((inAt a2 (k0_off2 L 4096#32) (k0_off2_inb L 3)).view.read (Elt F) X)) ∗
          reads d L (outAt outW (k0_off51 L 5120#32) (k0_off51_inb L 5)) (parities ((inAt a2 (k0_off2 L 5120#32) (k0_off2_inb L 4)).view.read (Elt F) X)) ∗
          reads d L (outAt outW (k0_off51 L 6144#32) (k0_off51_inb L 6)) (parities ((inAt a2 (k0_off2 L 6144#32) (k0_off2_inb L 5)).view.read (Elt F) X)) ∗
          reads d L (outAt outW (k0_off51 L 7168#32) (k0_off51_inb L 7)) (parities ((inAt a2 (k0_off2 L 7168#32) (k0_off2_inb L 6)).view.read (Elt F) X)))
            ∗ ((∃ f, pts d L a4 f) ∗ (∃ f, pts d L a5 f) ∗ (∃ f, pts d L a6 f) ∗ (∃ f, pts d L a7 f))
            ∗ (semVal (tV d L, SemLoc.dma a8.sem) 0 ∗ semVal (tV d L, SemLoc.dma a9.sem) 0 ∗ semVal (tV d L, SemLoc.dma a10.sem) 0)
            ∗ ∃ W', ⌜∀ p ∈ W', p ∈ W ∨ p.2 = none⌝ ∗ owes (tV d L) O W') : sProp 𝕄) := by
  rw [cc0_k_eq_skeleton]; unfold cc0_k_skel
  rw [k0_part41_eq_skeleton, k0_part42_eq_skeleton, k0_part43_eq_skeleton, k0_part44_eq_skeleton]
  unfold k0_part41_skel k0_part42_skel k0_part43_skel k0_part44_skel
  iintro ⟨#Hlv, ⟨Hi0, Hi1, Hi2, Hi3, Hi4, Hi5, Hi6, Hi7⟩, ⟨Ho0, Ho1, Ho2, Ho3, Ho4, Ho5, Ho6, Ho7⟩, ⟨H4, H5, H6, H7⟩, ⟨HA, HB, HC⟩, HO⟩
  ihave Hmw := ((K (F := F)).mayWaits_none (thr := tV d L) hO) $$ Hlv
  sl_exec
  rw [Prog.bind_assoc]
  iapply (loop_run d L a2 h2 outW (Memref.isWhole_whole _) a4 h4 a5 h5 a6 h6 a7 h7 a8 a9 a10 _ _) $$ [H4 H6]
  · isplitl [H4] <;> iassumption
  iintro ⟨H4, %g0, %e0, H6⟩
  sl_exec
  rw [loop2_eq]
  rw [Prog.bind_assoc]
  iapply (loop_run d L a2 h2 outW (Memref.isWhole_whole _) a5 h5 a4 h4 a7 h7 a6 h6 a8 a9 a10 _ _) $$ [H5 H7]
  · isplitl [H5] <;> iassumption
  iintro ⟨H5, %g1, %e1, H7⟩
  sl_exec
  rw [loop3_eq]
  rw [Prog.bind_assoc]
  iapply (loop_run d L a2 h2 outW (Memref.isWhole_whole _) a4 h4 a5 h5 a6 h6 a7 h7 a8 a9 a10 _ _) $$ [H4 H6]
  · isplitl [H4] <;> iassumption
  iintro ⟨H4, %g2, %e2, H6⟩
  sl_exec
  rw [loop4_eq]
  rw [Prog.bind_assoc]
  iapply (loop_run d L a2 h2 outW (Memref.isWhole_whole _) a5 h5 a4 h4 a7 h7 a6 h6 a8 a9 a10 _ _) $$ [H5 H7]
  · isplitl [H5] <;> iassumption
  iintro ⟨H5, %g3, %e3, H7⟩
  sl_exec
  rw [loop5_eq]
  rw [Prog.bind_assoc]
  iapply (loop_run d L a2 h2 outW (Memref.isWhole_whole _) a4 h4 a5 h5 a6 h6 a7 h7 a8 a9 a10 _ _) $$ [H4 H6]
  · isplitl [H4] <;> iassumption
  iintro ⟨H4, %g4, %e4, H6⟩
  sl_exec
  rw [loop6_eq]
  rw [Prog.bind_assoc]
  iapply (loop_run d L a2 h2 outW (Memref.isWhole_whole _) a5 h5 a4 h4 a7 h7 a6 h6 a8 a9 a10 _ _) $$ [H5 H7]
  · isplitl [H5] <;> iassumption
  iintro ⟨H5, %g5, %e5, H7⟩
  sl_exec
  rw [loop7_eq]
  rw [Prog.bind_assoc]
  iapply (loop_run d L a2 h2 outW (Memref.isWhole_whole _) a4 h4 a5 h5 a6 h6 a7 h7 a8 a9 a10 _ _) $$ [H4 H6]
  · isplitl [H4] <;> iassumption
  iintro ⟨H4, %g6, %e6, H6⟩
  sl_exec
  rw [loop8_eq]
  rw [Prog.bind_assoc]
  iapply (loop_run d L a2 h2 outW (Memref.isWhole_whole _) a5 h5 a4 h4 a7 h7 a6 h6 a8 a9 a10 _ _) $$ [H5 H7]
  · isplitl [H5] <;> iassumption
  iintro ⟨H5, %g7, %e7, H7⟩
  sl_exec
  sl_step
  isplitl [Hi0 Hi1 Hi2 Hi3 Hi4 Hi5 Hi6 Hi7]
  · isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Hi6]; · iexact Hi6
    iexact Hi7
  isplitl [Ho0 Ho1 Ho2 Ho3 Ho4 Ho5 Ho6 Ho7]
  · isplitl [Ho0]
    · iexists _; isplitr; swap; · iexact Ho0
      ipureintro; exact read_written a4 _ _ _ _ _ _ e0
    isplitl [Ho1]
    · iexists _; isplitr; swap; · iexact Ho1
      ipureintro; exact read_written a5 _ _ _ _ _ _ e1
    isplitl [Ho2]
    · iexists _; isplitr; swap; · iexact Ho2
      ipureintro; exact read_written a4 _ _ _ _ _ _ e2
    isplitl [Ho3]
    · iexists _; isplitr; swap; · iexact Ho3
      ipureintro; exact read_written a5 _ _ _ _ _ _ e3
    isplitl [Ho4]
    · iexists _; isplitr; swap; · iexact Ho4
      ipureintro; exact read_written a4 _ _ _ _ _ _ e4
    isplitl [Ho5]
    · iexists _; isplitr; swap; · iexact Ho5
      ipureintro; exact read_written a5 _ _ _ _ _ _ e5
    isplitl [Ho6]
    · iexists _; isplitr; swap; · iexact Ho6
      ipureintro; exact read_written a4 _ _ _ _ _ _ e6
    iexists _; isplitr; swap; · iexact Ho7
    ipureintro; exact read_written a5 _ _ _ _ _ _ e7
  isplitl [H4 H5 H6 H7]
  · isplitl [H4]; · iexists _; iexact H4
    isplitl [H5]; · iexists _; iexact H5
    isplitl [H6]; · iexists _; iexact H6
    iexists _; iexact H7
  isplitl [HA HB HC]
  · isplitl [HA]; · iexact HA
    isplitl [HB]; · iexact HB
    iexact HC
  iexists _; isplitr; swap; · iexact HO
  ipureintro
  iterate 16 refine waits_insert _ ?_
  exact fun p hp => .inl hp

end Cert.Proof.Sc

end
-- ==== Proof.Blocks.lean ====
/-
  The 256 blocks of 1024 columns that the 32 tiles share out: a slice the body addresses is one of them, they are
  disjoint and together all columns, and the checks of a block are the block of the checks.
-/
module

public import proofs.«01_k».proof.Proof.Tile
public import Idealize.ShloMosaic.Lib.Pipeline.ValueKit.Geometry

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type}

local notation "𝕄" => MT nD τ sig (HIx 1) (Elt F) ℕ UU ℕ

/-! ## The blocks of an array's columns -/

/-- Block `b` of 1024 columns, of an array of `R` rows. -/
def cols (R b : ℕ) : Finset (⟨2, ![R, 262144]⟩ : Shape).Idx := Finset.univ.filter fun y => (y 1).val / 1024 = b

theorem mem_cols {R b : ℕ} {y : (⟨2, ![R, 262144]⟩ : Shape).Idx} : y ∈ cols R b ↔ (y 1).val / 1024 = b := by
  simp [cols]

/-- The number of block `g` of tile `i` of SparseCore `c`. -/
abbrev blk (c i : ℕ) (g : Fin 8) : ℕ := 16 * i + 8 * c + g.val

/-- The elements of a block, by SparseCore, tile and block of the tile. -/
abbrev colsOf (R : ℕ) (t : Fin 2 × Fin 16 × Fin 8) : Finset (⟨2, ![R, 262144]⟩ : Shape).Idx := cols R (blk t.1.val t.2.1.val t.2.2)

/-- Two blocks share no element. -/
theorem cols_disjoint (R : ℕ) : ∀ t ∈ (Finset.univ : Finset (Fin 2 × Fin 16 × Fin 8)), ∀ t' ∈ (Finset.univ : Finset (Fin 2 × Fin 16 × Fin 8)),
    t ≠ t' → Disjoint (colsOf R t) (colsOf R t') := by
  rintro ⟨c, i, g⟩ - ⟨c', i', g'⟩ - h
  refine Finset.disjoint_left.mpr fun y h1 h2 => h ?_
  have e := (mem_cols.mp h1).symm.trans (mem_cols.mp h2)
  dsimp only [blk] at e
  obtain ⟨rfl, rfl, rfl⟩ : c = c' ∧ i = i' ∧ g = g' := ⟨Fin.ext (by omega), Fin.ext (by omega), Fin.ext (by omega)⟩
  rfl

/-- The blocks are all of the array. -/
theorem cols_cover (R : ℕ) : (Finset.univ : Finset (Fin 2 × Fin 16 × Fin 8)).biUnion (colsOf R) = Finset.univ := by
  refine Finset.eq_univ_of_forall fun y => Finset.mem_biUnion.mpr ?_
  have h : (y 1).val < 262144 := (y 1).isLt
  refine ⟨(⟨(y 1).val / 1024 / 8 % 2, by omega⟩, ⟨(y 1).val / 1024 / 16, by omega⟩, ⟨(y 1).val / 1024 % 8, by omega⟩), Finset.mem_univ _, mem_cols.mpr ?_⟩
  dsimp only [blk]; omega

/-- The rectangle of all rows and 1024 columns from a multiple of 1024 on is a block. -/
theorem unit_set {R : ℕ} (off : Fin 2 → ℕ) (inb) (b : ℕ) (h : off = ![0, 1024 * b]) :
    (Rect.unit (s := ⟨2, ![R, 262144]⟩) off (⟨2, ![R, 1024]⟩ : Shape).size inb).set = cols R b := by
  subst h
  ext y
  rw [Rect.mem_set_unit, mem_cols]
  have h0 : (y 0).val < R := (y 0).isLt
  constructor
  · intro H
    have h1 := H 1
    simp at h1
    omega
  · intro e a
    match a with
    | 0 => exact ⟨Nat.zero_le _, by simpa using h0⟩
    | 1 =>
      have : 1024 * b ≤ (y 1).val ∧ (y 1).val < 1024 * b + 1024 := by omega
      simpa using this

variable (d : Dev nD)

/-- The two arrays the call reads and writes. -/
abbrev vLoc : Loc nD τ sig := (T d : Thread nD τ).loc main_v0
abbrev oLoc : Loc nD τ sig := (T d : Thread nD τ).loc main_v1

/-- A block of the array read, held. -/
abbrev vCols (b : ℕ) (X : Buf (Elt F) (vLoc d)) : sProp 𝕄 := vLoc d ↦[cols 32 b]{fullShare} X
/-- A block of the array written, held. -/
abbrev oCols (b : ℕ) (Y : Buf (Elt F) (oLoc d)) : sProp 𝕄 := oLoc d ↦[cols 16 b]{fullShare} Y

/-- The array read is its blocks. -/
theorem v_blocks (X : Buf (Elt F) (vLoc d)) :
    (vLoc d ↦{fullShare} X : sProp 𝕄)
      = bigSep Finset.univ fun c : Fin 2 => bigSep Finset.univ fun i : Fin 16 => bigSep Finset.univ fun g : Fin 8 => vCols d (blk c.val i.val g) X := by
  rw [← cols_cover 32, pointsTo_biUnion Finset.univ (ℓ := vLoc d) (colsOf 32) (cols_disjoint 32), BI.bigSep_univ_prod]
  exact bigSep_congr fun c _ => BI.bigSep_univ_prod _

/-- The array written is its blocks. -/
theorem o_blocks (Y : Buf (Elt F) (oLoc d)) :
    (oLoc d ↦{fullShare} Y : sProp 𝕄)
      = bigSep Finset.univ fun c : Fin 2 => bigSep Finset.univ fun i : Fin 16 => bigSep Finset.univ fun g : Fin 8 => oCols d (blk c.val i.val g) Y := by
  rw [← cols_cover 16, pointsTo_biUnion Finset.univ (ℓ := oLoc d) (colsOf 16) (cols_disjoint 16), BI.bigSep_univ_prod]
  exact bigSep_congr fun c _ => BI.bigSep_univ_prod _

/-- Eight things at once are the eight, one by one. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The slices the body addresses -/

variable (L : grid0.Coords)

/-- A slice of the array read, held by a tile, is a block of it. -/
theorem pts_in (off : Fin 2 → ℕ) (inb) (b : ℕ) (h : off = ![0, 1024 * b]) (X : Buf (Elt F) (vLoc d)) :
    (pts d L (inAt inW off inb) X : sProp 𝕄) = vCols d b X := by
  have e : (inAt inW off inb).view.set = cols 32 b := (View.set_slice_whole _ _).trans (unit_set (R := 32) off inb b h)
  show (vLoc d ↦[(inAt inW off inb).view.set]{fullShare} X : sProp 𝕄) = _
  rw [e]

/-- A slice of the array written, held by a tile, is a block of it. -/
theorem pts_out (off : Fin 2 → ℕ) (inb) (b : ℕ) (h : off = ![0, 1024 * b]) (Y : Buf (Elt F) (oLoc d)) :
    (pts d L (outAt outW off inb) Y : sProp 𝕄) = oCols d b Y := by
  have e : (outAt outW off inb).view.set = cols 16 b := (View.set_slice_whole _ _).trans (unit_set (R := 16) off inb b h)
  show (oLoc d ↦[(outAt outW off inb).view.set]{fullShare} Y : sProp 𝕄) = _
  rw [e]

/-- An array of 16 rows that reads, on a block, as the checks of that block of an array of 32 rows, holds there the
    checks of the whole array. -/
theorem block_value (off off' : Fin 2 → ℕ) (inb inb') (e : off' = off) (X : Buf (Elt F) (vLoc d)) (Y : Buf (Elt F) (oLoc d))
    (h : (outAt outW off inb).view.read (Elt F) Y = parities ((inAt inW off' inb').view.read (Elt F) X)) :
    ∀ y ∈ (outAt outW off inb).view.set, Y y = parities (n := 262144) X y := by
  subst e
  intro y hy
  obtain ⟨j, -, rfl⟩ := Finset.mem_map.mp hy
  have hj := congrFun h j
  refine hj.trans ?_
  have h0 : off' 0 = 0 := by have := inb 0; have : off' 0 + 16 ≤ 16 := this; omega
  unfold parities
  congr 1
  · funext a
    show X _ = X _
    congr 1
    funext k; apply Fin.ext
    match k with
    | 0 => exact (ValueKit.view_emb_slice_whole_unit_val _ _ _ _ _ _).trans (by rw [h0]; exact Nat.zero_add _)
    | 1 => exact (ValueKit.view_emb_slice_whole_unit_val _ _ _ _ _ _).trans
              (ValueKit.view_emb_slice_whole_unit_val main_v1_scv _ _ _ j 1).symm
  · exact ((ValueKit.view_emb_slice_whole_unit_val main_v1_scv off' _ inb j 0).trans (by rw [h0]; simp)).symm

/-- What a tile leaves in a slice of the array written: the block of the whole array's checks. -/
theorem reads_out (off off' : Fin 2 → ℕ) (inb inb') (b : ℕ) (h : off = ![0, 1024 * b]) (h' : off' = ![0, 1024 * b]) (X : Buf (Elt F) (vLoc d)) :
    (reads d L (outAt outW off inb) (parities ((inAt inW off' inb').view.read (Elt F) X)) : sProp 𝕄) ⊢ oCols d b (parities (n := 262144) X) := by
  iintro ⟨%f, %hf, H⟩
  have e : (pts d L (outAt outW off inb) f : sProp 𝕄) = oCols d b (parities (n := 262144) X) :=
    (pointsTo_congr (block_value d off off' inb inb' (h'.trans h.symm) X f hf)).trans (pts_out d L off inb b h _)
  rw [← e]
  iexact H

end Cert.Proof.Sc

end
-- ==== Proof.Launch.lean ====
/-
  The launch: what the call hands each SparseCore and each tile, the tile's task from the body's run, and the split of
  the call's operands among the tiles.
-/
module

public import proofs.«01_k».proof.Proof.Blocks

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx ownCells mem_ownCells ownRefs ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## A tile's eight blocks -/

/-- The eight blocks of the array read that belong to tile `i` of SparseCore `c`. -/
abbrev inBlocks (d : Dev nD) (c i : ℕ) (X : Buf (Elt F) (vLoc d)) : sProp 𝕄 := bigSep Finset.univ fun g : Fin 8 => vCols d (blk c i g) X
/-- The eight blocks of the array written that belong to tile `i` of SparseCore `c`. -/
abbrev outBlocks (d : Dev nD) (c i : ℕ) (Y : Buf (Elt F) (oLoc d)) : sProp 𝕄 := bigSep Finset.univ fun g : Fin 8 => oCols d (blk c i g) Y

section Tile

variable (d : Dev nD) (L : grid0.Coords)

omit [FloatOps F] in
/-- The first fetch reads block 0 of the tile. -/
theorem off1_blk : k0_off1 L = ![0, 1024 * blk (L 0).val (L 1).val 0] := by
  rw [k0_off1_eq, show 16384 * (L 1).val + 8192 * (L 0).val = 1024 * blk (L 0).val (L 1).val 0 by dsimp only [blk, Fin.val_zero]; omega]
omit [FloatOps F] in
/-- Each later fetch reads the next block. -/
theorem off2_blk (r : Fin 7) : k0_off2 L (BitVec.ofNat 32 (1024 + 1024 * r.val)) = ![0, 1024 * blk (L 0).val (L 1).val r.succ] := by
  rw [k0_off2_eq, show 16384 * (L 1).val + 8192 * (L 0).val + 1024 * r.val + 1024 = 1024 * blk (L 0).val (L 1).val r.succ by
    simp only [blk, Fin.val_succ]; omega]
omit [FloatOps F] in
/-- The write-out of block `g` goes to block `g` of the tile. -/
theorem off51_blk (g : Fin 8) : k0_off51 L (BitVec.ofNat 32 (1024 * g.val)) = ![0, 1024 * blk (L 0).val (L 1).val g] := by
  rw [k0_off51_eq, show 16384 * (L 1).val + 8192 * (L 0).val + 1024 * g.val = 1024 * blk (L 0).val (L 1).val g by dsimp only [blk]; omega]

/-- A tile's blocks of the array read are the slices its body fetches. -/
theorem inBlocks_eq (X : Buf (Elt F) (vLoc d)) :
    (inBlocks d (L 0).val (L 1).val X : sProp 𝕄) = iprop(
      pts d L (inAt inW (k0_off1 L) (k0_off1_inb L)) X ∗
      pts d L (inAt inW (k0_off2 L 1024#32) (k0_off2_inb L 0)) X ∗
      pts d L (inAt inW (k0_off2 L 2048#32) (k0_off2_inb L 1)) X ∗
      pts d L (inAt inW (k0_off2 L 3072#32) (k0_off2_inb L 2)) X ∗
      pts d L (inAt inW (k0_off2 L 4096#32) (k0_off2_inb L 3)) X ∗
      pts d L (inAt inW (k0_off2 L 5120#32) (k0_off2_inb L 4)) X ∗
      pts d L (inAt inW (k0_off2 L 6144#32) (k0_off2_inb L 5)) X ∗
      pts d L (inAt inW (k0_off2 L 7168#32) (k0_off2_inb L 6)) X) := by
  rw [inBlocks, bigSep_eight,
    pts_in d L (k0_off1 L) (k0_off1_inb L) _ (off1_blk L) X,
    pts_in d L (k0_off2 L 1024#32) (k0_off2_inb L 0) _ (off2_blk L 0) X,
    pts_in d L (k0_off2 L 2048#32) (k0_off2_inb L 1) _ (off2_blk L 1) X,
    pts_in d L (k0_off2 L 3072#32) (k0_off2_inb L 2) _ (off2_blk L 2) X,
    pts_in d L (k0_off2 L 4096#32) (k0_off2_inb L 3) _ (off2_blk L 3) X,
    pts_in d L (k0_off2 L 5120#32) (k0_off2_inb L 4) _ (off2_blk L 4) X,
    pts_in d L (k0_off2 L 6144#32) (k0_off2_inb L 5) _ (off2_blk L 5) X,
    pts_in d L (k0_off2 L 7168#32) (k0_off2_inb L 6) _ (off2_blk L 6) X]
  rfl

/-- A tile's blocks of the array written are the slices its body writes out to. -/
theorem outBlocks_eq (Y : Buf (Elt F) (oLoc d)) :
    (outBlocks d (L 0).val (L 1).val Y : sProp 𝕄) = iprop(
      pts d L (outAt outW (k0_off51 L 0#32) (k0_off51_inb L 0)) Y ∗
      pts d L (outAt outW (k0_off51 L 1024#32) (k0_off51_inb L 1)) Y ∗
      pts d L (outAt outW (k0_off51 L 2048#32) (k0_off51_inb L 2)) Y ∗
      pts d L (outAt outW (k0_off51 L 3072#32) (k0_off51_inb L 3)) Y ∗
      pts d L (outAt outW (k0_off51 L 4096#32) (k0_off51_inb L 4)) Y ∗
      pts d L (outAt outW (k0_off51 L 5120#32) (k0_off51_inb L 5)) Y ∗
      pts d L (outAt outW (k0_off51 L 6144#32) (k0_off51_inb L 6)) Y ∗
      pts d L (outAt outW (k0_off51 L 7168#32) (k0_off51_inb L 7)) Y) := by
  rw [outBlocks, bigSep_eight,
    pts_out d L (k0_off51 L 0#32) (k0_off51_inb L 0) _ (off51_blk L 0) Y,
    pts_out d L (k0_off51 L 1024#32) (k0_off51_inb L 1) _ (off51_blk L 1) Y,
    pts_out d L (k0_off51 L 2048#32) (k0_off51_inb L 2) _ (off51_blk L 2) Y,
    pts_out d L (k0_off51 L 3072#32) (k0_off51_inb L 3) _ (off51_blk L 3) Y,
    pts_out d L (k0_off51 L 4096#32) (k0_off51_inb L 4) _ (off51_blk L 4) Y,
    pts_out d L (k0_off51 L 5120#32) (k0_off51_inb L 5) _ (off51_blk L 5) Y,
    pts_out d L (k0_off51 L 6144#32) (k0_off51_inb L 6) _ (off51_blk L 6) Y,
    pts_out d L (k0_off51 L 7168#32) (k0_off51_inb L 7) _ (off51_blk L 7) Y]

/-- What the body leaves in those slices: the tile's blocks of the whole array's checks. -/
theorem outBlocks_of_reads (X : Buf (Elt F) (vLoc d)) :
    (iprop(reads d L (outAt outW (k0_off51 L 0#32) (k0_off51_inb L 0)) (parities ((inAt inW (k0_off1 L) (k0_off1_inb L)).view.read (Elt F) X)) ∗
      reads d L (outAt outW (k0_off51 L 1024#32) (k0_off51_inb L 1)) (parities ((inAt inW (k0_off2 L 1024#32) (k0_off2_inb L 0)).view.read (Elt F) X)) ∗
      reads d L (outAt outW (k0_off51 L 2048#32) (k0_off51_inb L 2)) (parities ((inAt inW (k0_off2 L 2048#32) (k0_off2_inb L 1)).view.read (Elt F) X)) ∗
      reads d L (outAt outW (k0_off51 L 3072#32) (k0_off51_inb L 3)) (parities ((inAt inW (k0_off2 L 3072#32) (k0_off2_inb L 2)).view.read (Elt F) X)) ∗
      reads d L (outAt outW (k0_off51 L 4096#32) (k0_off51_inb L 4)) (parities ((inAt inW (k0_off2 L 4096#32) (k0_off2_inb L 3)).view.read (Elt F) X)) ∗
      reads d L (outAt outW (k0_off51 L 5120#32) (k0_off51_inb L 5)) (parities ((inAt inW (k0_off2 L 5120#32) (k0_off2_inb L 4)).view.read (Elt F) X)) ∗
      reads d L (outAt outW (k0_off51 L 6144#32) (k0_off51_inb L 6)) (parities ((inAt inW (k0_off2 L 6144#32) (k0_off2_inb L 5)).view.read (Elt F) X)) ∗
      reads d L (outAt outW (k0_off51 L 7168#32) (k0_off51_inb L 7)) (parities ((inAt inW (k0_off2 L 7168#32) (k0_off2_inb L 6)).view.read (Elt F) X))) : sProp 𝕄)
      ⊢ outBlocks d (L 0).val (L 1).val (parities (n := 262144) X) := by
  rw [outBlocks, bigSep_eight]
  refine (BI.sep_mono ?_ (BI.sep_mono ?_ (BI.sep_mono ?_ (BI.sep_mono ?_ (BI.sep_mono ?_ (BI.sep_mono ?_ (BI.sep_mono ?_ ?_)))))))
  · exact reads_out d L (k0_off51 L 0#32) (k0_off1 L) (k0_off51_inb L 0) (k0_off1_inb L) _ (off51_blk L 0) (off1_blk L) X
  · exact reads_out d L (k0_off51 L 1024#32) (k0_off2 L 1024#32) (k0_off51_inb L 1) (k0_off2_inb L 0) _ (off51_blk L 1) (off2_blk L 0) X
  · exact reads_out d L (k0_off51 L 2048#32) (k0_off2 L 2048#32) (k0_off51_inb L 2) (k0_off2_inb L 1) _ (off51_blk L 2) (off2_blk L 1) X
  · exact reads_out d L (k0_off51 L 3072#32) (k0_off2 L 3072#32) (k0_off51_inb L 3) (k0_off2_inb L 2) _ (off51_blk L 3) (off2_blk L 2) X
  · exact reads_out d L (k0_off51 L 4096#32) (k0_off2 L 4096#32) (k0_off51_inb L 4) (k0_off2_inb L 3) _ (off51_blk L 4) (off2_blk L 3) X
  · exact reads_out d L (k0_off51 L 5120#32) (k0_off2 L 5120#32) (k0_off51_inb L 5) (k0_off2_inb L 4) _ (off51_blk L 5) (off2_blk L 4) X
  · exact reads_out d L (k0_off51 L 6144#32) (k0_off2 L 6144#32) (k0_off51_inb L 6) (k0_off2_inb L 5) _ (off51_blk L 6) (off2_blk L 5) X
  · exact reads_out d L (k0_off51 L 7168#32) (k0_off2 L 7168#32) (k0_off51_inb L 7) (k0_off2_inb L 6) _ (off51_blk L 7) (off2_blk L 6) X

/-! ## A tile's own storage -/

/-- The semaphore of a tile's copies, by its name. -/
abbrev cell (a : DmaSems sig S_) : GSem nD τ sig := (tV d L, SemLoc.dma a.sem)

omit [FloatOps F] in
/-- The body's three semaphores are among the tile's own: they are them, at zero, and the rest. -/
theorem ownSems0_V :
    (ownSems0 (tV d L) : sProp 𝕄)
      = iprop(semVal (tV d L, SemLoc.dma cc0_scratch4.sem) 0 ∗ semVal (tV d L, SemLoc.dma cc0_scratch5.sem) 0
          ∗ semVal (tV d L, SemLoc.dma cc0_scratch6.sem) 0
          ∗ bigSep ((((ownCells (tV d L)).erase (cell d L cc0_scratch4)).erase (cell d L cc0_scratch5)).erase (cell d L cc0_scratch6))
              fun g => semVal g 0) := by
  have own (a : DmaSems sig S_) (h : (SemLoc.dma a.sem : SemLoc sig).isScoped .scVector = true) : cell d L a ∈ ownCells (tV d L) :=
    mem_ownCells.mpr ⟨rfl, h⟩
  have ne (a b : DmaSems sig S_) (h : (SemLoc.dma a.sem : SemLoc sig) ≠ SemLoc.dma b.sem) : cell d L a ≠ cell d L b :=
    fun e => h (Prod.mk.inj e).2
  unfold SparseCore.Cfg.ownSems0
  rw [SparseCore.bigSep_erase' (own cc0_scratch4 (by decide)),
    SparseCore.bigSep_erase' (Finset.mem_erase.mpr ⟨ne cc0_scratch5 cc0_scratch4 (by decide), own cc0_scratch5 (by decide)⟩),
    SparseCore.bigSep_erase' (Finset.mem_erase.mpr ⟨ne cc0_scratch6 cc0_scratch5 (by decide),
      Finset.mem_erase.mpr ⟨ne cc0_scratch6 cc0_scratch4 (by decide), own cc0_scratch6 (by decide)⟩⟩)]

/-- A buffer of the tile, as the memory of its thread names it. -/
abbrev bufOf (b : Ref sig .scVector) : DevRef τ sig := (Proc.scVector (cV L) (jV L)).devRef b

omit [FloatOps F] in
/-- The body's four scratch blocks are among the tile's own: they are them, at some contents, and the rest. -/
theorem ownBufs_V :
    (ownBufs (tV d L) : sProp 𝕄)
      = iprop((∃ f, pts d L in0 f) ∗ (∃ f, pts d L in1 f) ∗ (∃ f, pts d L out0 f) ∗ (∃ f, pts d L out1 f)
          ∗ bigSep (((((ownRefs (τ := τ) (.scVector (cV L) (jV L))).erase (bufOf L cc0_scratch0)).erase (bufOf L cc0_scratch1)).erase
              (bufOf L cc0_scratch2)).erase (bufOf L cc0_scratch3))
              fun b => iprop(∃ f, ((d, b) : Loc nD τ sig) ↦{fullShare} f)) := by
  have own (b : Ref sig .scVector) (h : (bufOf L b).owner = .proc (.scVector (cV L) (jV L))) : bufOf L b ∈ ownRefs (τ := τ) (.scVector (cV L) (jV L)) :=
    SparseCore.Cfg.mem_ownRefs_of_owner h
  have ne {a b : Ref sig .scVector} (h : a ≠ b) : bufOf L a ≠ bufOf L b := fun e => h (Proc.devRef_injective _ e)
  unfold SparseCore.Cfg.ownBufs pts
  rw [Memref.view_whole, Memref.view_whole, Memref.view_whole, Memref.view_whole, View.set_whole, View.set_whole, View.set_whole, View.set_whole]
  refine (SparseCore.bigSep_erase' (own cc0_scratch0 rfl)).trans ?_
  rw [SparseCore.bigSep_erase' (Finset.mem_erase.mpr ⟨ne (show (cc0_scratch1 : Ref sig .scVector) ≠ cc0_scratch0 by decide), own cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2 rfl⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
        Finset.mem_erase.mpr ⟨ne (show (cc0_scratch3 : Ref sig .scVector) ≠ cc0_scratch0 by decide), own cc0_scratch3 rfl⟩⟩⟩)]

/-! ## A tile's task -/

/-- The task of a tile: from its blocks of the two arrays to the same with the checks written. -/
theorem tile_body (hF : (K (F := F)).Facts) (X : Buf (Elt F) (vLoc d)) (Y : Buf (Elt F) (oLoc d))
    (O : CellTallies nD τ sig (HIx 1)) (W : Waits sig (HIx 1)) (hO : ∀ g, O g none = 0) :
    iprop(levAts (K (F := F)).L (K (F := F)).lev ∗ emp ∗ (inBlocks d (L 0).val (L 1).val X ∗ outBlocks d (L 0).val (L 1).val Y)
        ∗ scopedBufs (tV d L) ∗ scopedSems0 (tV d L) ∗ owes (tV d L) O W)
      ⊢ wp frame (wpE (defs₀ (F := F)) 𝒱₀ (tV d L) none) Set.univ
          (cc0_k (F := F) L inW (Memref.isWhole_whole _) outW (Memref.isWhole_whole _) in0 (Memref.isWhole_whole _) in1 (Memref.isWhole_whole _)
            out0 (Memref.isWhole_whole _) out1 (Memref.isWhole_whole _) cc0_scratch4 cc0_scratch5 cc0_scratch6)
          fun _ => (iprop((inBlocks d (L 0).val (L 1).val X ∗ outBlocks d (L 0).val (L 1).val (parities (n := 262144) X))
            ∗ scopedBufs (tV d L) ∗ scopedSems0 (tV d L)
            ∗ ∃ W', ⌜∀ p ∈ W', p ∈ W ∨ p.2 = none⌝ ∗ owes (tV d L) O W') : sProp 𝕄) := by
  rw [(K (F := F)).scopedBufs_V hF d (cV L) (jV L), SparseCore.Cfg.scopedSems0_V (Val := Elt F) d (cV L) (jV L), ownSems0_V, ownBufs_V,
    inBlocks_eq, outBlocks_eq]
  iintro ⟨#Hlv, -, ⟨Hi, Ho⟩, ⟨⟨%f4, H4⟩, ⟨%f5, H5⟩, ⟨%f6, H6⟩, ⟨%f7, H7⟩, Hbufs⟩, ⟨HA, HB, HC, Hsems⟩, HO⟩
  iapply (wp_wand_r frame _ Set.univ)
  isplitl [Hi Ho H4 H5 H6 H7 HA HB HC HO]
  · iapply (body_run d L inW (Memref.isWhole_whole _) in0 (Memref.isWhole_whole _) in1 (Memref.isWhole_whole _)
      out0 (Memref.isWhole_whole _) out1 (Memref.isWhole_whole _) cc0_scratch4 cc0_scratch5 cc0_scratch6 O W hO X Y f4 f5 f6 f7)
    isplitr; · iexact Hlv
    isplitl [Hi]; · iexact Hi
    isplitl [Ho]; · iexact Ho
    isplitl [H4 H5 H6 H7]
    · isplitl [H4]; · iexact H4
      isplitl [H5]; · iexact H5
      isplitl [H6]; · iexact H6
      iexact H7
    isplitl [HA HB HC]
    · isplitl [HA]; · iexact HA
      isplitl [HB]; · iexact HB
      iexact HC
    iexact HO
  iintro %_ ⟨Hi, Ho, ⟨H4, H5, H6, H7⟩, ⟨HA, HB, HC⟩, HO⟩
  ihave Ho' := (outBlocks_of_reads d L X) $$ Ho
  isplitl [Hi Ho']
  · isplitl [Hi] <;> iassumption
  isplitl [H4 H5 H6 H7 Hbufs]
  · isplitl [H4]; · iexact H4
    isplitl [H5]; · iexact H5
    isplitl [H6]; · iexact H6
    isplitl [H7]; · iexact H7
    iexact Hbufs
  isplitl [HA HB HC Hsems]
  · isplitl [HA]; · iexact HA
    isplitl [HB]; · iexact HB
    isplitl [HC]; · iexact HC
    iexact Hsems
  iexact HO

end Tile

/-! ## The launch theorem's obligations -/

variable (m : (ℓ : Loc nD τ sig) → Buf (Elt F) ℓ)

/-- The array the call reads: the first argument, transposed. -/
def xT (d : Dev nD) : Buf (Elt F) (vLoc d) :=
  transpose S32x262144 [1, 0] (m ((T d : Thread nD τ).loc main_arg0)) transposes_S262144x32_S32x262144_1_0

/-- The array the call writes, after it: the checks of every column. -/
def checks (d : Dev nD) : Buf (Elt F) (oLoc d) := parities (n := 262144) (xT m d)

/-- What a tile is handed, and what it hands back. -/
abbrev goT (d : Dev nD) (c i : ℕ) : sProp 𝕄 := iprop(inBlocks d c i (xT m d) ∗ outBlocks d c i (m (oLoc d)))
abbrev tdT (d : Dev nD) (c i : ℕ) : sProp 𝕄 := iprop(inBlocks d c i (xT m d) ∗ outBlocks d c i (checks m d))

/-- The one call hands each SparseCore its tiles' blocks of the two arrays, and each tile its own eight; the checks come
    back in the array written. -/
def P : (K (F := F)).Pay (nD := nD) (Val := Elt F) (Name := ℕ) (U := UU) where
  st := fun q d c => match q with | 0 => bigSep Finset.univ fun i : Fin 16 => goT m d c.val i.val
  dn := fun q d c => match q with | 0 => bigSep Finset.univ fun i : Fin 16 => tdT m d c.val i.val
  go := fun q d c i => match q with | 0 => goT m d c.val i.val
  td := fun q d c i => match q with | 0 => tdT m d c.val i.val
  x := fun _ _ => iprop(emp)

/-- All of it may rest in the handshakes' invariants. -/
instance P_storable : (P (F := F) m).IsStorable where
  st q d c := match q with
    | 0 => (inferInstance : BI.Storable (upEmb : UEmb _ 𝕄) (bigSep Finset.univ fun i : Fin 16 => goT m d c.val i.val))
  dn q d c := match q with
    | 0 => (inferInstance : BI.Storable (upEmb : UEmb _ 𝕄) (bigSep Finset.univ fun i : Fin 16 => tdT m d c.val i.val))
  go q d c i := match q with
    | 0 => (inferInstance : BI.Storable (upEmb : UEmb _ 𝕄) (goT m d c.val i.val))
  td q d c i := match q with
    | 0 => (inferInstance : BI.Storable (upEmb : UEmb _ 𝕄) (tdT m d c.val i.val))

/-- The grid point of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A tile runs the kernel at its grid point. -/
theorem defs₀_vector (c : Fin τ.nSC) (s : Fin τ.nSub) :
    defs₀ (F := F) (.scVector c s) 0 ()
      = SparseCore.onTile hcore0 hsub0 (fun c s => cc0_k (coordsV c s)
          inW (Memref.isWhole_whole _) outW (Memref.isWhole_whole _) in0 (Memref.isWhole_whole _) in1 (Memref.isWhole_whole _)
          out0 (Memref.isWhole_whole _) out1 (Memref.isWhole_whole _) cc0_scratch4 cc0_scratch5 cc0_scratch6) ⟨⟩ c s := rfl

omit [FloatOps F] in
/-- The launch allows a tile more waits than it makes. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets what the launch asks of it. -/
theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (xT m d) (m (oLoc d)) O W hO).trans (wp_mono frame _ _ fun _ => obl_post)

/-- A SparseCore's part of the call is its tiles' parts. -/
theorem vecSplit : (K (F := F)).VecSplit' (P m) 0 := by
  intro d c
  show (bigSep Finset.univ fun i : Fin 16 => goT m d c.val i.val) ⊢ |={Set.univ}=> iprop(
      (bigSep Finset.univ fun i : Fin 16 => goT m d c.val i.val)
      ∗ ((bigSep Finset.univ fun i : Fin 16 => tdT m d c.val i.val) -∗ (bigSep Finset.univ fun i : Fin 16 => tdT m d c.val i.val)))
  iintro H; imodintro
  isplitl [H]; · iexact H
  iintro H; iexact H

end Cert.Proof.Sc

end
-- ==== Proof.Run.lean ====
/-
  The whole program's run: the first argument transposed, the one call, its result transposed; the arguments unchanged,
  every semaphore back at zero, and the result the checks of every column.
-/
module

public import proofs.«01_k».proof.Defs
public import proofs.«01_k».proof.Proof.Launch
public import proofs.«01_k».proof.Proof.Gen.Kernel

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state at the launch -/

/-- The handshakes' rounds, and no counter yet. -/
def u₀ : UU := (initOf (K (F := F)).hsCells (K (F := F)).hsToks, 1)

omit [FloatOps F] in
/-- Nothing, many times, is nothing. -/
theorem bigSep_nothing {I : Type} (s : Finset I) : (bigSep s fun _ => iprop(emp)) = (iprop(emp) : sProp 𝕄) := bigSep_emp_const s

/-- The launch has the handshakes' rounds; the kernel asks for nothing beside them. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

/-! ## The program on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev b0' : DevRef τ sig := Proc.devRef .tc (main_v0 : Ref sig .tc)
abbrev b1' : DevRef τ sig := Proc.devRef .tc (main_v1 : Ref sig .tc)
abbrev b2' : DevRef τ sig := Proc.devRef .tc (main_v2 : Ref sig .tc)

/-- The two transposes of the program. -/
abbrev opIn : HloOp τ sig (Elt F) := StableHlo.unary main_arg0 main_v0 ((transpose S32x262144 [1, 0] · transposes_S262144x32_S32x262144_1_0) : (⟨S262144x32, .i32⟩ : BufTy).Contents (Elt F) → (⟨S32x262144, .i32⟩ : BufTy).Contents (Elt F))
abbrev opOut : HloOp τ sig (Elt F) := StableHlo.unary main_v1 main_v2 ((transpose S262144x16 [1, 0] · transposes_S16x262144_S262144x16_1_0) : (⟨S16x262144, .i32⟩ : BufTy).Contents (Elt F) → (⟨S262144x16, .i32⟩ : BufTy).Contents (Elt F))

/-- The TensorCore's arrays. -/
abbrev S6 : Finset (DevRef τ sig) := {a0', a1', a2', b0', b1', b2'}

/-- An array of the TensorCore, by its name. -/
abbrev tLoc (d : Dev nD) (b : Ref sig .tc) : Loc nD τ sig := (T d : Thread nD τ).loc b

omit [FloatOps F] in
/-- The six arrays held at once are the six, one by one. -/
theorem held_S6 (d : Dev nD) (W : Valuation τ sig (Elt F)) :
    (held (T d) S6 W : sProp 𝕄) = iprop((tLoc d main_arg0 ↦{fullShare} W a0') ∗ (tLoc d main_arg1 ↦{fullShare} W a1') ∗ (tLoc d main_arg2 ↦{fullShare} W a2')
      ∗ (tLoc d main_v0 ↦{fullShare} W b0') ∗ (tLoc d main_v1 ↦{fullShare} W b1') ∗ tLoc d main_v2 ↦{fullShare} W b2') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
/-- They are what the TensorCore holds at the launch. -/
theorem unscopedBufs_eq (d : Dev nD) (W : (b : Ref sig .tc) → Buf (Elt F) ((d.tc : Thread nD τ).loc b)) :
    (unscopedBufs d W : sProp 𝕄) = iprop((tLoc d main_arg0 ↦{fullShare} W main_arg0) ∗ (tLoc d main_arg1 ↦{fullShare} W main_arg1)
      ∗ (tLoc d main_arg2 ↦{fullShare} W main_arg2) ∗ (tLoc d main_v0 ↦{fullShare} W main_v0) ∗ (tLoc d main_v1 ↦{fullShare} W main_v1)
      ∗ tLoc d main_v2 ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The arrays' contents at the launch; after the first transpose; after the call; after the second transpose. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) b1' (checks m d)
def V3 (d : Dev nD) : Valuation τ sig (Elt F) := (opOut (F := F)).result (V2 m d)

theorem unscoped_held (d : Dev nD) : (unscopedBufs d (fun b => m ((T d : Thread nD τ).loc b)) : sProp 𝕄) = held (T d) S6 (V0 m d) := by
  rw [unscopedBufs_eq, held_S6]; rfl

/-- The first transpose changes its result alone. -/
theorem V1_of_ne (d : Dev nD) (b : DevRef τ sig) (h : b ∉ ({b0'} : Finset (DevRef τ sig))) : V1 m d b = m (d, b) :=
  (opIn (F := F)).result_of_not_mem (V0 m d) (b := b) h
theorem V1_b0 (d : Dev nD) : V1 m d b0' = xT m d := StableHlo.unary_result _ _ _ _ _ _
theorem V2_b1 (d : Dev nD) : V2 m d b1' = checks m d := Function.update_self _ _ _
theorem V2_of_ne (d : Dev nD) (b : DevRef τ sig) (h : b ≠ b1') : V2 m d b = V1 m d b := Function.update_of_ne h _ _

/-- The result: the checks, transposed back. -/
def result (d : Dev nD) : Buf (Elt F) (tLoc d main_v2) :=
  transpose S262144x16 [1, 0] (checks m d) transposes_S16x262144_S262144x16_1_0

theorem V3_b2 (d : Dev nD) : V3 m d b2' = result m d :=
  (StableHlo.unary_result _ _ _ _ _ _).trans (by rw [V2_b1]; rfl)

/-- An argument is never written. -/
theorem V3_arg (d : Dev nD) (b : DevRef τ sig) (h0 : b ∉ ({b0'} : Finset (DevRef τ sig))) (h1 : b ≠ b1') (h2 : b ∉ ({b2'} : Finset (DevRef τ sig))) :
    V3 m d b = m (d, b) :=
  ((opOut (F := F)).result_of_not_mem (V2 m d) (b := b) h2).trans ((V2_of_ne m d b h1).trans (V1_of_ne m d b h0))

theorem hIn : (opIn (F := F)).bufs ⊆ S6 := show ({a0', b0'} : Finset (DevRef τ sig)) ⊆ S6 by decide
theorem hOut : (opOut (F := F)).bufs ⊆ S6 := show ({b1', b2'} : Finset (DevRef τ sig)) ⊆ S6 by decide

/-- The tiles' blocks of the two arrays are the two arrays. -/
theorem deal_eq (d : Dev nD) (X : Buf (Elt F) (vLoc d)) (Y : Buf (Elt F) (oLoc d)) :
    (bigSep Finset.univ fun c : Fin 2 => bigSep Finset.univ fun i : Fin 16 => iprop(inBlocks d c.val i.val X ∗ outBlocks d c.val i.val Y) : sProp 𝕄)
      = iprop((vLoc d ↦{fullShare} X) ∗ oLoc d ↦{fullShare} Y) := by
  rw [v_blocks, o_blocks, ← bigSep_sep']
  exact bigSep_congr fun c _ => bigSep_sep' _ _ _

/-- What the call takes for the two SparseCores, and what it hands back. -/
theorem st0_eq (d : Dev nD) : (bigSep Finset.univ fun c : Fin ((K (F := F)).nCore 0) => (P m).st 0 d c)
    = iprop((vLoc d ↦{fullShare} xT m d) ∗ oLoc d ↦{fullShare} m (oLoc d)) := deal_eq d _ _
theorem dn0_eq (d : Dev nD) : (bigSep Finset.univ fun c : Fin ((K (F := F)).nCore 0) => (P m).dn 0 d c)
    = iprop((vLoc d ↦{fullShare} xT m d) ∗ oLoc d ↦{fullShare} checks m d) := deal_eq d _ _

/-- What the program leaves: the arguments as they were, and the result. -/
abbrev FIN (d : Dev nD) : sProp 𝕄 :=
  iprop((tLoc d main_arg0 ↦{fullShare} m (tLoc d main_arg0)) ∗ (tLoc d main_arg1 ↦{fullShare} m (tLoc d main_arg1))
    ∗ (tLoc d main_arg2 ↦{fullShare} m (tLoc d main_arg2)) ∗ tLoc d main_v2 ↦{fullShare} result m d)

/-- The program on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the first transpose
  iapply (wp_hlo_within 𝒱 (T d) none Set.univ (op := opIn) (S := S6) hIn (V := V0 m d)) $$ [Hb Hheld]
  · isplitl [Hb] <;> iassumption
  iintro ⟨Hb, Hheld⟩
  ihave Hh := (Entails.of_eq (show held (T d) S6 ((opIn (F := F)).result (V0 m d)) = _ from held_S6 (F := F) d (V1 m d))) $$ Hheld
  rw [V1_b0, V1_of_ne m d b1' (by decide)]
  icases Hh with ⟨H0, H1, H2, Hv, Ho, Hr⟩
  rw [wp_ret]; imodintro
  -- the call
  iapply ((K (F := F)).wp_run (D (F := F)) 𝒱 (EH := EH) (P := P m) κ d 0) $$ [Hst H0 H1 H2 Hv Ho Hr Hb Hts]
  isplitr; · iexact Hctx
  isplitl [Hst]; · iexact Hst
  isplitl [Hv Ho]
  · rw [st0_eq]
    isplitl [Hv] <;> iassumption
  iintro ⟨Hst, Hdn⟩
  ihave Hdn' := (Entails.of_eq (dn0_eq m d)) $$ Hdn
  icases Hdn' with ⟨Hv, Ho⟩
  -- the second transpose
  iapply (wp_hlo_within 𝒱 (T d) none Set.univ (op := opOut) (S := S6) hOut (V := V2 m d)) $$ [Hb H0 H1 H2 Hv Ho Hr]
  · isplitl [Hb]; · iexact Hb
    rw [held_S6, V2_b1, V2_of_ne m d a0' (by decide), V2_of_ne m d a1' (by decide), V2_of_ne m d a2' (by decide),
      V2_of_ne m d b0' (by decide), V2_of_ne m d b2' (by decide), V1_b0]
    isplitl [H0]; · iexact H0
    isplitl [H1]; · iexact H1
    isplitl [H2]; · iexact H2
    isplitl [Hv]; · iexact Hv
    isplitl [Ho]; · iexact Ho
    iexact Hr
  iintro ⟨Hb, Hheld⟩
  ihave Hh := (Entails.of_eq (show held (T d) S6 ((opOut (F := F)).result (V2 m d)) = _ from held_S6 (F := F) d (V3 m d))) $$ Hheld
  rw [V3_b2, V3_arg m d a0' (by decide) (by decide) (by decide), V3_arg m d a1' (by decide) (by decide) (by decide),
    V3_arg m d a2' (by decide) (by decide) (by decide)]
  icases Hh with ⟨H0, H1, H2, -, -, Hr⟩
  rw [wp_ret]; imodintro; imodintro
  isplitl [Hst]; · iexact Hst
  isplitr [Hb Hts]
  · isplitl [H0]; · iexact H0
    isplitl [H1]; · iexact H1
    isplitl [H2]; · iexact H2
    iexact Hr
  isplitl [Hb] <;> iassumption

/-- What a final memory satisfies on device `d`. -/
def fq (d : Dev nD) (s' : Phys nD τ sig (Elt F)) : Prop :=
  s'.mem.mem (tLoc d main_arg0) = m (tLoc d main_arg0) ∧ s'.mem.mem (tLoc d main_arg1) = m (tLoc d main_arg1)
    ∧ s'.mem.mem (tLoc d main_arg2) = m (tLoc d main_arg2) ∧ s'.mem.mem (tLoc d main_v2) = result m d

omit [FloatOps F] in
/-- An array held at some contents has them in memory. -/
theorem mem_of_held (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (mem_of_held (tLoc d main_arg0) _ s') $$ [H0 HSI]
  · isplitl [H0] <;> iassumption
  icases H with ⟨%h0, HSI⟩
  ihave H := (mem_of_held (tLoc d main_arg1) _ s') $$ [H1 HSI]
  · isplitl [H1] <;> iassumption
  icases H with ⟨%h1, HSI⟩
  ihave H := (mem_of_held (tLoc d main_arg2) _ s') $$ [H2 HSI]
  · isplitl [H2] <;> iassumption
  icases H with ⟨%h2, HSI⟩
  ihave H := (mem_of_held (tLoc d main_v2) _ s') $$ [Hr HSI]
  · isplitl [Hr] <;> iassumption
  icases H with ⟨%h3, -⟩
  ipureintro; exact ⟨h0, h1, h2, h3⟩

/-! ## The run -/

/-- How the program ends: on every device the arguments as they were and the result the checks, and every semaphore at
    zero. -/
def QC : PUnit × MemSt nD τ sig (Elt F) → Prop := fun r =>
  (∀ c : Dev nD, r.2.mem (tLoc c main_arg0) = m (tLoc c main_arg0) ∧ r.2.mem (tLoc c main_arg1) = m (tLoc c main_arg1)
    ∧ r.2.mem (tLoc c main_arg2) = m (tLoc c main_arg2) ∧ r.2.mem (tLoc c main_v2) = result m c) ∧ r.2.sem = fun _ => 0

/-- The program's run, over any float values. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The program as taken runs, keeps its arguments and ends with every semaphore at zero. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩) (run_main (F := Bits) m ρ)

/-- So does its idealization. -/
theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

end Cert.Proof.Sc

end
-- ==== Proof.Words.lean ====
/-
  Words modulo two. A 32-bit word's residue modulo 2 is a ring's element, sums and products of words go to sums and
  products of residues, and the lowest bit of a word is its residue. From these: the two sums of the program and of its
  reference have one lowest bit, and the reference's signed remainder by two is that bit.
-/
module

public import Idealize.ShloMosaic.PureOps
public import Idealize.ShloMosaic.Lib.Affine
public import Idealize.ShloMosaic.PureOps.Reduce
public import Mathlib.Data.BitVec
public import Mathlib.Data.ZMod.Basic
public import Mathlib.Algebra.BigOperators.Fin
public import Mathlib.Tactic.Ring

@[expose] public section

namespace Cert.Proof.Sc

open Idealize.ShloMosaic

/-! ## The residue of a word -/

/-- A word's residue modulo 2. -/
def res2 (x : BitVec 32) : ZMod 2 := (x.toNat : ZMod 2)

/-- A number below `2 ^ 32` or past it has the residue of its word. -/
theorem natCast_mod (n : ℕ) : ((n % 2 ^ 32 : ℕ) : ZMod 2) = (n : ZMod 2) := by
  rw [ZMod.natCast_eq_natCast_iff']
  omega

/-- The residue of a sum. -/
theorem res2_add (x y : BitVec 32) : res2 (x + y) = res2 x + res2 y := by
  unfold res2
  rw [BitVec.toNat_add, natCast_mod, Nat.cast_add]

/-- The residue of a product. -/
theorem res2_mul (x y : BitVec 32) : res2 (x * y) = res2 x * res2 y := by
  unfold res2
  rw [BitVec.toNat_mul, natCast_mod, Nat.cast_mul]

/-- The residue of nought. -/
theorem res2_zero : res2 0#32 = 0 := by unfold res2; simp

/-- The residue of a sum over a fold of word additions from nought. -/
theorem res2_fold {I : Type} [DecidableEq I] (s : Finset I) (f : I → BitVec 32) :
    res2 (s.fold IntOp.addi 0#32 f) = ∑ i ∈ s, res2 (f i) := by
  induction s using Finset.induction_on with
  | empty => simp [res2_zero]
  | insert a t ha ih => rw [Finset.fold_insert ha, Finset.sum_insert ha, ← ih]; exact res2_add _ _

/-- The lowest bit of a word, as a word, is settled by its residue. -/
theorem low_eq_of_res2 {x y : BitVec 32} (h : res2 x = res2 y) : x &&& 1#32 = y &&& 1#32 := by
  unfold res2 at h
  rw [ZMod.natCast_eq_natCast_iff'] at h
  apply BitVec.eq_of_toNat_eq
  rw [BitVec.toNat_and, BitVec.toNat_and]
  show x.toNat &&& 1 = y.toNat &&& 1
  rw [Nat.and_one_is_mod, Nat.and_one_is_mod, h]

/-- The lowest bit of a word has the word's residue. -/
theorem res2_low (x : BitVec 32) : res2 (x &&& 1#32) = res2 x := by
  unfold res2
  rw [BitVec.toNat_and]
  show ((x.toNat &&& 1 : ℕ) : ZMod 2) = _
  rw [Nat.and_one_is_mod, ZMod.natCast_eq_natCast_iff']
  omega

/-! ## The signed remainder by two -/

/-- The remainder with the divisor's sign: the signed remainder, the divisor added where it is negative. -/
def floorMod2 (x : BitVec 32) : BitVec 32 :=
  let r := IntOp.remsi .host x 2#32
  if IntOp.andi (IntOp.cmpi .ne (IntOp.cmpi .slt r 0#32) (IntOp.cmpi .slt 2#32 0#32)) (IntOp.cmpi .ne r 0#32) = 1#1
  then IntOp.addi r 2#32 else r

/-- It is the word's lowest bit, for every word. -/
theorem floorMod2_eq (x : BitVec 32) : floorMod2 x = x &&& 1#32 := by
  have key : x.srem 2#32 = 0#32 ∧ x &&& 1#32 = 0#32 ∨ (x.srem 2#32 = 1#32 ∨ x.srem 2#32 = -1#32) ∧ x &&& 1#32 = 1#32 := by
    have hlow : (x &&& 1#32).toNat = x.toNat % 2 := by rw [BitVec.toNat_and]; exact Nat.and_one_is_mod _
    have hs : x.srem 2#32 = if x.msb then -((-x).umod 2#32) else x.umod 2#32 := by
      rw [BitVec.srem_eq]; cases x.msb <;> rfl
    have hneg : (-x).toNat % 2 = x.toNat % 2 := by rw [BitVec.toNat_neg]; omega
    have hx := Nat.mod_two_eq_zero_or_one x.toNat
    have hu (y : BitVec 32) : y.umod 2#32 = BitVec.ofNat 32 (y.toNat % 2) := by
      apply BitVec.eq_of_toNat_eq
      rw [BitVec.toNat_ofNat, Nat.mod_eq_of_lt (by omega)]
      exact BitVec.toNat_umod
    rw [hs, hu, hu, hneg]
    rcases hx with e | e
    · left
      refine ⟨by rw [e]; split <;> rfl, BitVec.eq_of_toNat_eq (hlow.trans e)⟩
    · right
      refine ⟨by rw [e]; split; exacts [Or.inr rfl, Or.inl rfl], BitVec.eq_of_toNat_eq (hlow.trans e)⟩
  unfold floorMod2
  dsimp only
  rw [IntOp.remsi_of_pos .host (by decide : 0 < (2#32 : BitVec 32).toInt)]
  rcases key with ⟨h, e⟩ | ⟨h | h, e⟩ <;> rw [h, e] <;> decide

/-! ## The two sums -/

/-- The bits that check number `r` modulo 4 reads, as a sum over all 32 bits. -/
theorem sum_checked (f : Fin 32 → ZMod 2) (r : Fin 4) :
    (∑ j : Fin 8, f ⟨4 * j.val + (4 - r.val) % 4, by omega⟩) = ∑ c : Fin 32, if (r.val + c.val) % 4 = 0 then f c else 0 := by
  fin_cases r <;> simp [Fin.sum_univ_succ] <;> ring

/-- THE CODE. Where every place `p j` names one of the 32 bits, and the multipliers `w j` of the places naming bit `c`
    sum to an odd number exactly where `(i + c) % 4 = 0`, the sum of the named bits times their multipliers is, modulo 2,
    the sum of the bits with `(i + c) % 4 = 0`. -/
theorem sum_code (i : ℕ) (f : Fin 32 → ZMod 2) (p : Fin 8 → Fin 32) (w : Fin 8 → ZMod 2)
    (h : ∀ c : Fin 32, (∑ j, if p j = c then w j else 0) = if (i + c.val) % 4 = 0 then 1 else 0) :
    (∑ j, f (p j) * w j) = ∑ j : Fin 8, f ⟨4 * j.val + (4 - i % 4) % 4, by omega⟩ := by
  have e1 : (∑ j, f (p j) * w j) = ∑ j, ∑ c, f c * (if p j = c then w j else 0) :=
    Finset.sum_congr rfl fun j _ => by simp
  rw [e1, Finset.sum_comm, sum_checked f ⟨i % 4, Nat.mod_lt _ (by decide)⟩]
  refine Finset.sum_congr rfl fun c _ => ?_
  rw [← Finset.mul_sum, h c, Nat.mod_add_mod]
  split <;> simp

end Cert.Proof.Sc
-- ==== Proof.Reference.lean ====
/-
  The reference's result, element by element. Its composed term, under the names below, reads at row `n` and check `i` the
  eight bits of the row that `Ps` names, times the multipliers `Ms`, their sum's remainder by two. Where every entry of
  `Ps` names a bit, the wrap of negative places and the mask of places out of range change nothing.
-/
module

public import proofs.«01_k».proof.Proof.Gen.ReferenceIdeal.Run
public import proofs.«01_k».proof.Proof.Words
public import Idealize.ShloMosaic.Lib.Pointwise
public import Idealize.ShloMosaic.Lib.ReduceAll

@[expose] public section

noncomputable section

namespace Cert.Proof.Ref

open Cert.ReferenceIdeal Cert.ReferenceIdeal.Gen
open Idealize.ShloMosaic Idealize.ShloMosaic.TcCoe
open Cert.Proof.Sc (floorMod2 floorMod2_eq)

/-! ## The reference's operations, grouped -/

section Terms
variable (b : IVec S262144x32 32) (Ps Ms : IVec S16x8 32)

/-- The places, a negative one counted from the end of the row. -/
def places : IVec S16x8x1 32 :=
  broadcastInDim S16x8x1 ![0, 1] bcast_S16x8_S16x8x1_0_1
    (select (cmpi .slt Ps (broadcastInDim S16x8 ![] bcast_S_S16x8 (constantI S_ 32 0#32)))
      (addi Ps (broadcastInDim S16x8 ![] bcast_S_S16x8 (constantI S_ 32 32#32))) Ps)

/-- Which places name a bit of the row. -/
def inRow : IVec S16x8 1 :=
  Host.reduce IntOp.andi
    (andi (cmpi .sge (places Ps) (broadcastInDim S16x8x1 ![] bcast_S_S16x8x1 (constantI S_ 32 0#32)))
      (cmpi .sle (places Ps) (broadcastInDim S16x8x1 ![0, 1, 2] bcast_S1x1x1_S16x8x1_0_1_2
        (broadcastInDim S1x1x1 ![2] bcast_S1_S1x1x1_2 (constantI S1 32 31#32)))))
    (constantI S_ 1 1#1) reducesTo_S16x8x1_S16x8_d2 h_S_

/-- The bits taken, a fixed word where the place names none. -/
def taken : IVec S262144x16x8 32 :=
  select (broadcastInDim S262144x16x8 ![1, 2] bcast_S16x8_S262144x16x8_1_2 (inRow Ps))
    (Host.gather gather_S262144x32_S16x8x1_S262144x16x8_0_1_n_n_1_2_2621441 b (places Ps))
    (broadcastInDim S262144x16x8 ![] bcast_S_S262144x16x8 (constantI S_ 32 2147483648#32))

/-- The sum, over the eight places of a check, of the bits times their multipliers. -/
def total : IVec S262144x16 32 :=
  Host.reduce IntOp.addi
    (muli (taken b Ps) (broadcastInDim S262144x16x8 ![0, 1, 2] bcast_S1x16x8_S262144x16x8_0_1_2
      (broadcastInDim S1x16x8 ![1, 2] bcast_S16x8_S1x16x8_1_2 Ms)))
    (constantI S_ 32 0#32) reducesTo_S262144x16x8_S262144x16_d2 h_S_

/-- The divisor two, with the guard against nought. -/
def two : IVec S_ 32 :=
  select (cmpi .eq (id (constantI S_ 32 2#32)) (constantI S_ 32 0#32)) (constantI S_ 32 1#32) (id (constantI S_ 32 2#32))

/-- The signed remainder by two of every element. -/
def remTwo (x : IVec S262144x16 32) : IVec S262144x16 32 := Host.remsi x (broadcastInDim S262144x16 ![] bcast_S_S262144x16 two)

/-- The remainder with the divisor's sign. -/
def modTwo (x : IVec S262144x16 32) : IVec S262144x16 32 :=
  select (andi (cmpi .ne (cmpi .slt (remTwo x) (broadcastInDim S262144x16 ![] bcast_S_S262144x16 (constantI S_ 32 0#32)))
        (broadcastInDim S262144x16 ![] bcast_S_S262144x16 (cmpi .slt two (constantI S_ 32 0#32))))
      (cmpi .ne (remTwo x) (broadcastInDim S262144x16 ![] bcast_S_S262144x16 (constantI S_ 32 0#32))))
    (addi (remTwo x) (broadcastInDim S262144x16 ![] bcast_S_S262144x16 two)) (remTwo x)

end Terms

variable {F : FTy → Type} [FloatOps F]

/-- The reference's result is these operations of its three arguments. -/
theorem res_eq (m : (ℓ : Loc nD τ sig) → Buf (Elt F) ℓ) (c : Dev nD) :
    Cert.ReferenceIdeal.Value.res_main_v5 m c
      = modTwo (total (m ((c.tc : Thread nD τ).loc main_arg0)) (m ((c.tc : Thread nD τ).loc main_arg1))
          (m ((c.tc : Thread nD τ).loc main_arg2))) := rfl

/-! ## At an index -/

section At
variable (b : IVec S262144x32 32) (Ps Ms : IVec S16x8 32)

/-- The gather along a row, read at an index: the row's element at the place named, where the place names one. -/
theorem gather_at (idx : IVec S16x8x1 32) (n : Fin 262144) (i : Fin 16) (j : Fin 8) (p : Fin 32)
    (hp : (idx (ix3 i j 0)).toInt = (p.val : ℤ)) :
    Host.gather gather_S262144x32_S16x8x1_S262144x16x8_0_1_n_n_1_2_2621441 b idx (ix3 n i j) = b (ix2 n p) := by
  let d := gather_S262144x32_S16x8x1_S262144x16x8_0_1_n_n_1_2_2621441
  unfold Host.gather
  refine congrArg b (funext fun a => Fin.ext ?_)
  show d.start (ix3 n i j) idx a + d.batchCoord (ix3 n i j) a + d.offCoord (ix3 n i j) a = _
  rw [d.batchCoord_eq_zero _ _ List.not_mem_nil, Nat.add_zero]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ d.startIndexMap by decide), Nat.zero_add]
    unfold GatherDims.offCoord
    rw [dif_pos (show (0 : Fin 2) ∈ d.sKept by decide)]
    rfl
  · rw [d.offCoord_eq_zero _ _ (show (1 : Fin 2) ∉ d.sKept by decide), Nat.add_zero]
    unfold GatherDims.start
    rw [dif_pos (show (1 : Fin 2) ∈ d.startIndexMap by decide)]
    have hsi : d.siIdx (ix3 n i j) ⟨List.idxOf (1 : Fin 2) d.startIndexMap, by decide⟩ = ix3 i j 0 := by
      funext c
      refine Fin.ext ?_
      match c with
      | ⟨0, _⟩ => rfl
      | ⟨1, _⟩ => rfl
      | ⟨2, _⟩ => rfl
    refine (congrArg (fun k => min (idx k).toInt.toNat 31) hsi).trans ?_
    show min (idx (ix3 i j 0)).toInt.toNat 31 = p.val
    rw [hp]
    have := p.isLt
    omega

/-- A place that names a bit is read as it is. -/
theorem places_at (i : Fin 16) (j : Fin 8) (h : 0 ≤ (Ps (ix2 i j)).toInt) : places Ps (ix3 i j 0) = Ps (ix2 i j) := by
  unfold places
  pointwise
  refine if_neg fun e => ?_
  exact absurd (IntOp.cmpi_slt.1 e) (not_lt.2 h)

/-- Places that all name a bit pass the mask. -/
theorem inRow_at (h : ∀ i j, 0 ≤ (Ps (ix2 i j)).toInt ∧ (Ps (ix2 i j)).toInt < 32) (y : S16x8.Idx) : inRow Ps y = 1#1 := by
  unfold inRow
  refine Host.reduce_andi_one _ _ _ _ _ rfl fun k => ?_
  obtain ⟨i, j, z, rfl⟩ : ∃ (i : Fin 16) (j : Fin 8) (z : Fin 1), k = ix3 i j z := ⟨k 0, k 1, k 2, eq_ix3 k⟩
  obtain rfl : z = 0 := Subsingleton.elim _ _
  pointwise
  rw [places_at Ps i j (h i j).1, IntOp.andi_eq_one, IntOp.cmpi_sge, IntOp.cmpi_sle]
  exact ⟨(h i j).1, Int.le_of_lt_add_one (h i j).2⟩

/-- The bit taken at row `n` for place `j` of check `i`, where all places name bits. -/
theorem taken_at (h : ∀ i j, 0 ≤ (Ps (ix2 i j)).toInt ∧ (Ps (ix2 i j)).toInt < 32) (n : Fin 262144) (i : Fin 16) (j : Fin 8)
    (p : Fin 32) (hp : (Ps (ix2 i j)).toInt = (p.val : ℤ)) : taken b Ps (ix3 n i j) = b (ix2 n p) := by
  unfold taken
  pointwise
  rw [inRow_at Ps h, gather_at b _ n i j p ((congrArg BitVec.toInt (places_at Ps i j (h i j).1)).trans hp)]
  rfl

/-- The sum at row `n` and check `i`. -/
theorem total_at (p : Fin 16 → Fin 8 → Fin 32) (hp : ∀ i j, (Ps (ix2 i j)).toInt = ((p i j).val : ℤ)) (n : Fin 262144)
    (i : Fin 16) :
    total b Ps Ms (ix2 n i) = Finset.univ.fold IntOp.addi 0#32 fun j : Fin 8 => b (ix2 n (p i j)) * Ms (ix2 i j) := by
  unfold total
  pointwise
  refine Finset.fold_congr fun j _ => ?_
  rw [taken_at b Ps (fun i j => by rw [hp i j]; have := (p i j).isLt; omega) n i j (p i j) (hp i j)]
  rfl

/-- The remainder by two is the lowest bit. -/
theorem modTwo_at (x : IVec S262144x16 32) (y : S262144x16.Idx) : modTwo x y = x y &&& 1#32 := by
  refine Eq.trans ?_ (floorMod2_eq (x y))
  unfold modTwo floorMod2
  rfl

end At

end Cert.Proof.Ref
-- ==== Proof.Code.lean ====
/-
  What the precondition says of its three arrays, element by element: every place names one of the row's 32 bits, and the
  multipliers of a check's places that name bit `c` sum to an odd number exactly where `(i + c) % 4 = 0`.
-/
module

public import proofs.«01_k».proof.Proof.Gen.Pre_encodes_code
public import proofs.«01_k».proof.Proof.Words
public import Idealize.ShloMosaic.Lib.Pointwise
public import Idealize.ShloMosaic.Lib.ReduceAll

@[expose] public section

noncomputable section

namespace Cert.Proof.Code

open Cert.Pre_encodes_code Cert.Pre_encodes_code.Gen
open Idealize.ShloMosaic
open Cert.Proof.Sc (res2 res2_low res2_fold res2_zero)

variable {F : FTy → Type} [FloatOps F]
variable (b : IVec S262144x32 32) (Ps Ms : IVec S16x8 32)

/-- A select on an equality test is the choice by equality. -/
theorem select_eq (x y u v : BitVec 32) : Scalar.select (IntOp.cmpi .eq x y) u v = if x = y then u else v := by
  unfold Scalar.select
  exact if_congr IntOp.cmpi_eq rfl rfl

/-- The test of `i + c` modulo 4, on words, is the test on numbers. -/
theorem checked_iff (i : Fin 16) (c : Fin 32) :
    (BitVec.ofNat 32 i.val + BitVec.ofNat 32 c.val) &&& 3#32 = 0#32 ↔ (i.val + c.val) % 4 = 0 := by
  have hi := i.isLt
  have hc := c.isLt
  rw [← BitVec.toNat_inj, BitVec.toNat_and, BitVec.toNat_add, BitVec.toNat_ofNat, BitVec.toNat_ofNat,
    Nat.mod_eq_of_lt (by omega : i.val < 2 ^ 32), Nat.mod_eq_of_lt (by omega : c.val < 2 ^ 32),
    Nat.mod_eq_of_lt (by omega : i.val + c.val < 2 ^ 32)]
  exact Iff.of_eq (congrArg (· = 0) (Nat.and_two_pow_sub_one_eq_mod (i.val + c.val) 2))

/-- The precondition's two halves, for check `i`: the parities of the bits' weights, and the range of the places. -/
theorem halves (h : fn (F := F) b Ps Ms = fun _ => 1#1) (i : Fin 16) :
    (∀ c : Fin 32,
      (Finset.univ.fold IntOp.addi 0#32 fun j : Fin 8 => if Ps (ix2 i j) = BitVec.ofNat 32 c.val then Ms (ix2 i j) else 0#32) &&& 1#32
        = if (BitVec.ofNat 32 i.val + BitVec.ofNat 32 c.val) &&& 3#32 = 0#32 then 1#32 else 0#32)
    ∧ ∀ j : Fin 8, 0 ≤ (Ps (ix2 i j)).toInt ∧ (Ps (ix2 i j)).toInt < 32 := by
  have h0 := congrFun h (fun a => a.elim0)
  unfold fn fn_part1 fn_where fn_where_0 at h0
  dsimp only at h0
  obtain ⟨h1, h2⟩ := IntOp.andi_eq_one.1 h0
  have : Subsingleton S_.Idx := ⟨fun x y => funext fun a => a.elim0⟩
  refine ⟨fun c => ?_, fun j => ?_⟩
  · have e := Host.reduce_andi_all _ _ _ _ _ h1 (ix2 i c)
    pointwise at e
    have e' := IntOp.cmpi_eq.1 e
    simp only [select_eq] at e'
    exact e'.trans (select_eq _ _ _ _)
  · have e := Host.reduce_andi_all _ _ _ _ _ h2 (ix2 i j)
    pointwise at e
    rw [IntOp.andi_eq_one, IntOp.cmpi_sge, IntOp.cmpi_slt] at e
    exact e

/-- THE CODE: the places as numbers below 32, and every bit's weight in every check modulo 2. -/
theorem code (h : fn (F := F) b Ps Ms = fun _ => 1#1) : ∃ p : Fin 16 → Fin 8 → Fin 32,
    (∀ i j, (Ps (ix2 i j)).toInt = ((p i j).val : ℤ))
    ∧ ∀ i (c : Fin 32), (∑ j, if p i j = c then res2 (Ms (ix2 i j)) else 0) = if (i.val + c.val) % 4 = 0 then 1 else 0 := by
  have hr (i : Fin 16) (j : Fin 8) := (halves b Ps Ms h i).2 j
  refine ⟨fun i j => ⟨(Ps (ix2 i j)).toInt.toNat, by have := hr i j; omega⟩, fun i j => (Int.toNat_of_nonneg (hr i j).1).symm,
    fun i c => ?_⟩
  have hw := congrArg res2 ((halves b Ps Ms h i).1 c)
  rw [res2_low, res2_fold] at hw
  refine (Finset.sum_congr rfl fun j _ => ?_).trans (hw.trans ?_)
  · have hc := c.isLt
    have hn : Ps (ix2 i j) = BitVec.ofNat 32 c.val ↔ (Ps (ix2 i j)).toInt.toNat = c.val := by
      rw [← BitVec.toInt_inj, BitVec.toInt_eq_toNat_of_lt (x := BitVec.ofNat 32 c.val) (by rw [BitVec.toNat_ofNat]; omega),
        BitVec.toNat_ofNat, Nat.mod_eq_of_lt (by omega : c.val < 2 ^ 32)]
      have := hr i j
      omega
    simp only [Fin.ext_iff, hn]
    split
    · rfl
    · exact res2_zero.symm
  · simp only [checked_iff]
    split
    · rfl
    · exact res2_zero

end Cert.Proof.Code
-- ==== Proof.Equation.lean ====
/-
  The program's result and the reference's are one array, where the precondition holds.
-/
module

public import proofs.«01_k».proof.Proof.Run
public import proofs.«01_k».proof.Proof.Reference
public import proofs.«01_k».proof.Proof.Code

@[expose] public section

noncomputable section

namespace Cert.Proof.Sc

open Cert.KernelIdeal Cert.KernelIdeal.Gen
open Idealize.ShloMosaic

variable {F : FTy → Type} [FloatOps F]

/-- The residue of a check of one row: the sum of the residues of the eight bits it reads. -/
theorem res2_parity (col : Fin 32 → BitVec 32) (r : ℕ) :
    res2 (parity col r) = ∑ j : Fin 8, res2 (col ⟨4 * j.val + (4 - r % 4) % 4, by omega⟩) := by
  unfold parity
  dsimp only
  rw [res2_low, Fin.sum_univ_eight]
  simp only [res2_add]
  ring

/-- A check of a row is 0 or 1: its own lowest bit. -/
theorem parity_low (col : Fin 32 → BitVec 32) (r : ℕ) : parity col r &&& 1#32 = parity col r := by
  unfold parity
  dsimp only
  rw [BitVec.and_assoc, BitVec.and_self]

/-- The program's result at row `n` and check `i`: the check of the row. -/
theorem result_at (m : (ℓ : Loc nD τ sig) → Buf (Elt F) ℓ) (d : Dev nD) (n : Fin 262144) (i : Fin 16) :
    result m d (ix2 n i) = parity (fun a => m (tLoc d main_arg0) (ix2 n a)) i.val := by
  have e : result m d (ix2 n i) = checks m d (ix2 i n) := by
    unfold result
    pointwise
  rw [e]
  unfold checks parities
  refine congrArg (fun col => parity col i.val) (funext fun a => ?_)
  unfold xT
  pointwise

/-- THE EQUATION: where the precondition holds of the three arrays, the reference's array is the program's. -/
theorem reference_eq (m : (ℓ : Loc nD τ sig) → Buf (Elt F) ℓ) (d : Dev nD) (Ps Ms : IVec S16x8 32)
    (h : Cert.Pre_encodes_code.fn (F := F) (m (tLoc d main_arg0)) Ps Ms = fun _ => 1#1) :
    Ref.modTwo (Ref.total (m (tLoc d main_arg0)) Ps Ms) = result m d := by
  obtain ⟨p, hp, hw⟩ := Code.code _ Ps Ms h
  funext y
  obtain ⟨n, i, rfl⟩ : ∃ (n : Fin 262144) (i : Fin 16), y = ix2 n i := ⟨y 0, y 1, eq_ix2 y⟩
  rw [Ref.modTwo_at, result_at, ← parity_low, Ref.total_at _ Ps Ms p hp]
  refine low_eq_of_res2 ?_
  rw [res2_fold, res2_parity]
  simp only [res2_mul]
  exact sum_code i.val (fun c => res2 (m (tLoc d main_arg0) (ix2 n c))) (p i) (fun j => res2 (Ms (ix2 i j))) (hw i)

end Cert.Proof.Sc
-- ==== Proof.lean ====
/-
  The claims. The kernel's program and the one the equation is about are one text: it runs, leaves its arguments and every
  semaphore as they were, and its result is the sixteen checks of every row (Proof/Run.lean). The reference's result is the
  same array where the precondition holds (Proof/Equation.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_encodes_code
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem

/-- The reference runs and leaves its arguments as they were; it has no semaphore. -/
theorem frame_referenceIdeal : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- From arguments that the precondition admits, the program and the reference end with one array. -/
theorem equal : Cert.algebraic_KernelIdeal_ReferenceIdeal_pre_encodes_code := by
  intro m ρ m' ρ' hpre hargs
  refine ⟨Sc.result m, ?_, ?_⟩
  · exact (θ_run Cert.KernelIdeal.defs _ _).mono
      (fun r h c => ⟨(h.1 c).2.2.2, (h.1 c).1, (h.1 c).2.1, (h.1 c).2.2.1⟩) (Sc.run_main (F := Ideal) m ρ)
  · refine (θ_run Cert.ReferenceIdeal.defs _ _).mono (fun r h c => ⟨(h c).1.trans ?_, (h c).2⟩)
      (Cert.ReferenceIdeal.Value.run (F := Ideal) m' ρ')
    rw [Ref.res_eq, (hargs c).1, (hargs c).2.1, (hargs c).2.2]
    exact Sc.reference_eq m c _ _ (hpre c)

theorem claim : Cert.Claim :=
  ⟨Cert.Kernel.Gen.facts, Cert.KernelIdeal.Gen.facts, Cert.ReferenceIdeal.Gen.facts, Cert.Pre_encodes_code.Gen.facts,
    Sc.frame_kernel, Sc.frame_kernelIdeal, fun m ρ _ => Sc.frame_kernelIdeal m ρ trivial,
    frame_referenceIdeal, fun m ρ _ => frame_referenceIdeal m ρ trivial, trivial, equal⟩

end Cert.Proof

end
